-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.block ⟨3, ![2, 16384, 64]⟩ ⟨3, ![2, 262144, 64]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨3, ![2, 16384, 128]⟩ ⟨3, ![2, 262144, 128]⟩ 1 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v18) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S2x16384x64 : Shape := ⟨3, ![2, 16384, 64]⟩
abbrev S64x128 : Shape := ⟨2, ![64, 128]⟩
abbrev S_ : Shape := ⟨0, ![]⟩

class Facts : Prop where
  bcast_S_S2x16384x64 : S_.BroadcastsInDim S2x16384x64 (![] : Fin 0 → Fin S2x16384x64.rank)
  reducesTo_S2x16384x64_S_d0_1_2 : S2x16384x64.ReducesTo [0, 1, 2] S_
  h_S_ : 0 < S_.numel

variable [Facts]

def fn {F : FTy → Type} [FloatOps F] (main_arg0 : FVec F S2x16384x64 .f32) (main_arg1 : FVec F S64x128 .f32) : IVec S_ 1 :=
  let main_v0 : FVec F S2x16384x64 .f32 := Host.absf main_arg0
  let main_cst : FVec F S_ .f32 := constant S_ .f32 0x7F800000#32
  let main_v1 : FVec F S2x16384x64 .f32 := broadcastInDim S2x16384x64 ![] bcast_S_S2x16384x64 main_cst
  let main_v2 : IVec S2x16384x64 1 := cmpf .olt main_v0 main_v1
  let main_c : IVec S_ 1 := constantI S_ 1 1#1
  let main_v3 : IVec S_ 1 := (fun x v => Host.reduce IntOp.andi x v reducesTo_S2x16384x64_S_d0_1_2 h_S_) main_v2 main_c
  main_v3
-- ==== Pre_finite_ReferenceIdeal.lean ====
abbrev S2x262144x64 : Shape := ⟨3, ![2, 262144, 64]⟩
abbrev S64x128 : Shape := ⟨2, ![64, 128]⟩
abbrev S_ : Shape := ⟨0, ![]⟩

class Facts : Prop where
  bcast_S_S2x262144x64 : S_.BroadcastsInDim S2x262144x64 (![] : Fin 0 → Fin S2x262144x64.rank)
  reducesTo_S2x262144x64_S_d0_1_2 : S2x262144x64.ReducesTo [0, 1, 2] S_
  h_S_ : 0 < S_.numel

variable [Facts]

def fn {F : FTy → Type} [FloatOps F] (main_arg0 : FVec F S2x262144x64 .f32) (main_arg1 : FVec F S64x128 .f32) : IVec S_ 1 :=
  let main_v0 : FVec F S2x262144x64 .f32 := Host.absf main_arg0
  let main_cst : FVec F S_ .f32 := constant S_ .f32 0x7F800000#32
  let main_v1 : FVec F S2x262144x64 .f32 := broadcastInDim S2x262144x64 ![] bcast_S_S2x262144x64 main_cst
  let main_v2 : IVec S2x262144x64 1 := cmpf .olt main_v0 main_v1
  let main_c : IVec S_ 1 := constantI S_ 1 1#1
  let main_v3 : IVec S_ 1 := (fun x v => Host.reduce IntOp.andi x v reducesTo_S2x262144x64_S_d0_1_2 h_S_) main_v2 main_c
  main_v3
-- ==== Kernel.lean ====
abbrev S2x16384x64 : Shape := ⟨3, ![2, 16384, 64]⟩
abbrev S64x128 : Shape := ⟨2, ![64, 128]⟩
abbrev S2x16384x128 : Shape := ⟨3, ![2, 16384, 128]⟩
abbrev S2x2x4096x128 : Shape := ⟨4, ![2, 2, 4096, 128]⟩
abbrev S16x4x64 : Shape := ⟨3, ![16, 4, 64]⟩
abbrev S4 : Shape := ⟨1, ![4]⟩
abbrev S2 : Shape := ⟨1, ![2]⟩
abbrev S16 : Shape := ⟨1, ![16]⟩
abbrev S_ : Shape := ⟨0, ![]⟩
abbrev S1 : Shape := ⟨1, ![1]⟩
abbrev S2x4096x64 : Shape := ⟨3, ![2, 4096, 64]⟩
abbrev S1x4096 : Shape := ⟨2, ![1, 4096]⟩
abbrev S1x64 : Shape := ⟨2, ![1, 64]⟩
abbrev S1x4096x64 : Shape := ⟨3, ![1, 4096, 64]⟩
abbrev S4096x64 : Shape := ⟨2, ![4096, 64]⟩
abbrev S2x64 : Shape := ⟨2, ![2, 64]⟩
abbrev S1x2x64 : Shape := ⟨3, ![1, 2, 64]⟩
abbrev S1x4x64 : Shape := ⟨3, ![1, 4, 64]⟩
abbrev S4x64 : Shape := ⟨2, ![4, 64]⟩
abbrev S2x1x64 : Shape := ⟨3, ![2, 1, 64]⟩
abbrev S4096x128 : Shape := ⟨2, ![4096, 128]⟩
abbrev S1x1x4096x128 : Shape := ⟨4, ![1, 1, 4096, 128]⟩
abbrev S2x4096x128 : Shape := ⟨3, ![2, 4096, 128]⟩
abbrev S1x2x4096x128 : Shape := ⟨4, ![1, 2, 4096, 128]⟩

abbrev nBuf : Space → Nat
  | .hbm => 3
  | .vmem => 4
  | .smem => 0
  | _ => 0

abbrev bufTy : (tb : Table) → Fin (tcTables nBuf tb) → BufTy
  | .hbm, ⟨0, _⟩ => ⟨S2x16384x64, .f32⟩
  | .hbm, ⟨1, _⟩ => ⟨S64x128, .f32⟩
  | .hbm, ⟨2, _⟩ => ⟨S2x16384x128, .bf16⟩
  | .local _ .vmem, ⟨0, _⟩ => ⟨S64x128, .f32⟩
  | .local _ .vmem, ⟨1, _⟩ => ⟨S2x16384x64, .f32⟩
  | .local _ .vmem, ⟨2, _⟩ => ⟨S2x2x4096x128, .bf16⟩
  | .local _ .vmem, ⟨3, _⟩ => ⟨S16x4x64, .f32⟩
  | _, _ => ⟨S2x16384x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 39 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | _ => false

abbrev sig : RefSig :=
  (ofTc nBuf bufTy 1 39 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_sem0_0 : DmaSem sig := 0
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let c0_i32 : BitVec 32 := 0#32
  let v5 : BitVec 1 := Scalar.cmpi .eq c16_i32_1 c0_i32
  let c1_i32_2 : BitVec 32 := 1#32
  let v6 : BitVec 32 := Scalar.select v5 c1_i32_2 c16_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v17 : BitVec 32 := Scalar.addi v2 c2_i32
  let c16_i32_9 : BitVec 32 := 16#32
  let c0_i32_10 : BitVec 32 := 0#32
  let v18 : BitVec 1 := Scalar.cmpi .eq c16_i32_9 c0_i32_10
  let c1_i32_11 : BitVec 32 := 1#32
  let v19 : BitVec 32 := Scalar.select v18 c1_i32_11 c16_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v30 : BitVec 32 := Scalar.addi v2 c3_i32
  let c16_i32_18 : BitVec 32 := 16#32
  let c0_i32_19 : BitVec 32 := 0#32
  let v31 : BitVec 1 := Scalar.cmpi .eq c16_i32_18 c0_i32_19
  let c1_i32_20 : BitVec 32 := 1#32
  let v32 : BitVec 32 := Scalar.select v31 c1_i32_20 c16_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v43 : BitVec 32 := Scalar.addi v2 c4_i32
  let c16_i32_27 : BitVec 32 := 16#32
  let c0_i32_28 : BitVec 32 := 0#32
  let v44 : BitVec 1 := Scalar.cmpi .eq c16_i32_27 c0_i32_28
  let c1_i32_29 : BitVec 32 := 1#32
  let v45 : BitVec 32 := Scalar.select v44 c1_i32_29 c16_i32_27
  let v46 : BitVec 32 := Scalar.remsi v43 v45
  let c0_i32_31 : BitVec 32 := 0#32
  let v48 : BitVec 1 := Scalar.cmpi .slt v46 c0_i32_31
  let c0_i32_32 : BitVec 32 := 0#32
  let v49 : BitVec 1 := Scalar.cmpi .slt v45 c0_i32_32
  let v50 : BitVec 1 := Scalar.xori v48 v49
  let c0_i32_30 : BitVec 32 := 0#32
  let v47 : BitVec 1 := Scalar.cmpi .ne v46 c0_i32_30
  let v51 : BitVec 1 := Scalar.andi v50 v47
  let v52 : BitVec 32 := Scalar.addi v46 v45
  let v53 : BitVec 32 := Scalar.select v51 v52 v46
  let c1_i32_34 : BitVec 32 := 1#32
  let v54 : BitVec 32 := Scalar.muli v53 c1_i32_34
  let v55 : BitVec 32 := Scalar.addi c0_i32_35 v54
  v55.toNat
def k0_dev5 (d0 : Dev nD) : Nat :=
  let c0_i32_44 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v56 : BitVec 32 := Scalar.addi v2 c5_i32
  let c16_i32_36 : BitVec 32 := 16#32
  let c0_i32_37 : BitVec 32 := 0#32
  let v57 : BitVec 1 := Scalar.cmpi .eq c16_i32_36 c0_i32_37
  let c1_i32_38 : BitVec 32 := 1#32
  let v58 : BitVec 32 := Scalar.select v57 c1_i32_38 c16_i32_36
  let v59 : BitVec 32 := Scalar.remsi v56 v58
  let c0_i32_40 : BitVec 32 := 0#32
  let v61 : BitVec 1 := Scalar.cmpi .slt v59 c0_i32_40
  let c0_i32_41 : BitVec 32 := 0#32
  let v62 : BitVec 1 := Scalar.cmpi .slt v58 c0_i32_41
  let v63 : BitVec 1 := Scalar.xori v61 v62
  let c0_i32_39 : BitVec 32 := 0#32
  let v60 : BitVec 1 := Scalar.cmpi .ne v59 c0_i32_39
  let v64 : BitVec 1 := Scalar.andi v63 v60
  let v65 : BitVec 32 := Scalar.addi v59 v58
  let v66 : BitVec 32 := Scalar.select v64 v65 v59
  let c1_i32_43 : BitVec 32 := 1#32
  let v67 : BitVec 32 := Scalar.muli v66 c1_i32_43
  let v68 : BitVec 32 := Scalar.addi c0_i32_44 v67
  v68.toNat
def k0_dev6 (d0 : Dev nD) : Nat :=
  let c0_i32_53 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v69 : BitVec 32 := Scalar.addi v2 c6_i32
  let c16_i32_45 : BitVec 32 := 16#32
  let c0_i32_46 : BitVec 32 := 0#32
  let v70 : BitVec 1 := Scalar.cmpi .eq c16_i32_45 c0_i32_46
  let c1_i32_47 : BitVec 32 := 1#32
  let v71 : BitVec 32 := Scalar.select v70 c1_i32_47 c16_i32_45
  let v72 : BitVec 32 := Scalar.remsi v69 v71
  let c0_i32_49 : BitVec 32 := 0#32
  let v74 : BitVec 1 := Scalar.cmpi .slt v72 c0_i32_49
  let c0_i32_50 : BitVec 32 := 0#32
  let v75 : BitVec 1 := Scalar.cmpi .slt v71 c0_i32_50
  let v76 : BitVec 1 := Scalar.xori v74 v75
  let c0_i32_48 : BitVec 32 := 0#32
  let v73 : BitVec 1 := Scalar.cmpi .ne v72 c0_i32_48
  let v77 : BitVec 1 := Scalar.andi v76 v73
  let v78 : BitVec 32 := Scalar.addi v72 v71
  let v79 : BitVec 32 := Scalar.select v77 v78 v72
  let c1_i32_52 : BitVec 32 := 1#32
  let v80 : BitVec 32 := Scalar.muli v79 c1_i32_52
  let v81 : BitVec 32 := Scalar.addi c0_i32_53 v80
  v81.toNat
def k0_dev7 (d0 : Dev nD) : Nat :=
  let c0_i32_62 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v82 : BitVec 32 := Scalar.addi v2 c7_i32
  let c16_i32_54 : BitVec 32 := 16#32
  let c0_i32_55 : BitVec 32 := 0#32
  let v83 : BitVec 1 := Scalar.cmpi .eq c16_i32_54 c0_i32_55
  let c1_i32_56 : BitVec 32 := 1#32
  let v84 : BitVec 32 := Scalar.select v83 c1_i32_56 c16_i32_54
  let v85 : BitVec 32 := Scalar.remsi v82 v84
  let c0_i32_58 : BitVec 32 := 0#32
  let v87 : BitVec 1 := Scalar.cmpi .slt v85 c0_i32_58
  let c0_i32_59 : BitVec 32 := 0#32
  let v88 : BitVec 1 := Scalar.cmpi .slt v84 c0_i32_59
  let v89 : BitVec 1 := Scalar.xori v87 v88
  let c0_i32_57 : BitVec 32 := 0#32
  let v86 : BitVec 1 := Scalar.cmpi .ne v85 c0_i32_57
  let v90 : BitVec 1 := Scalar.andi v89 v86
  let v91 : BitVec 32 := Scalar.addi v85 v84
  let v92 : BitVec 32 := Scalar.select v90 v91 v85
  let c1_i32_61 : BitVec 32 := 1#32
  let v93 : BitVec 32 := Scalar.muli v92 c1_i32_61
  let v94 : BitVec 32 := Scalar.addi c0_i32_62 v93
  v94.toNat
def k0_dev8 (d0 : Dev nD) : Nat :=
  let c0_i32_71 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v95 : BitVec 32 := Scalar.addi v2 c8_i32
  let c16_i32_63 : BitVec 32 := 16#32
  let c0_i32_64 : BitVec 32 := 0#32
  let v96 : BitVec 1 := Scalar.cmpi .eq c16_i32_63 c0_i32_64
  let c1_i32_65 : BitVec 32 := 1#32
  let v97 : BitVec 32 := Scalar.select v96 c1_i32_65 c16_i32_63
  let v98 : BitVec 32 := Scalar.remsi v95 v97
  let c0_i32_67 : BitVec 32 := 0#32
  let v100 : BitVec 1 := Scalar.cmpi .slt v98 c0_i32_67
  let c0_i32_68 : BitVec 32 := 0#32
  let v101 : BitVec 1 := Scalar.cmpi .slt v97 c0_i32_68
  let v102 : BitVec 1 := Scalar.xori v100 v101
  let c0_i32_66 : BitVec 32 := 0#32
  let v99 : BitVec 1 := Scalar.cmpi .ne v98 c0_i32_66
  let v103 : BitVec 1 := Scalar.andi v102 v99
  let v104 : BitVec 32 := Scalar.addi v98 v97
  let v105 : BitVec 32 := Scalar.select v103 v104 v98
  let c1_i32_70 : BitVec 32 := 1#32
  let v106 : BitVec 32 := Scalar.muli v105 c1_i32_70
  let v107 : BitVec 32 := Scalar.addi c0_i32_71 v106
  v107.toNat
def k0_dev9 (d0 : Dev nD) : Nat :=
  let c0_i32_80 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v108 : BitVec 32 := Scalar.addi v2 c9_i32
  let c16_i32_72 : BitVec 32 := 16#32
  let c0_i32_73 : BitVec 32 := 0#32
  let v109 : BitVec 1 := Scalar.cmpi .eq c16_i32_72 c0_i32_73
  let c1_i32_74 : BitVec 32 := 1#32
  let v110 : BitVec 32 := Scalar.select v109 c1_i32_74 c16_i32_72
  let v111 : BitVec 32 := Scalar.remsi v108 v110
  let c0_i32_76 : BitVec 32 := 0#32
  let v113 : BitVec 1 := Scalar.cmpi .slt v111 c0_i32_76
  let c0_i32_77 : BitVec 32 := 0#32
  let v114 : BitVec 1 := Scalar.cmpi .slt v110 c0_i32_77
  let v115 : BitVec 1 := Scalar.xori v113 v114
  let c0_i32_75 : BitVec 32 := 0#32
  let v112 : BitVec 1 := Scalar.cmpi .ne v111 c0_i32_75
  let v116 : BitVec 1 := Scalar.andi v115 v112
  let v117 : BitVec 32 := Scalar.addi v111 v110
  let v118 : BitVec 32 := Scalar.select v116 v117 v111
  let c1_i32_79 : BitVec 32 := 1#32
  let v119 : BitVec 32 := Scalar.muli v118 c1_i32_79
  let v120 : BitVec 32 := Scalar.addi c0_i32_80 v119
  v120.toNat
def k0_dev10 (d0 : Dev nD) : Nat :=
  let c0_i32_89 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v121 : BitVec 32 := Scalar.addi v2 c10_i32
  let c16_i32_81 : BitVec 32 := 16#32
  let c0_i32_82 : BitVec 32 := 0#32
  let v122 : BitVec 1 := Scalar.cmpi .eq c16_i32_81 c0_i32_82
  let c1_i32_83 : BitVec 32 := 1#32
  let v123 : BitVec 32 := Scalar.select v122 c1_i32_83 c16_i32_81
  let v124 : BitVec 32 := Scalar.remsi v121 v123
  let c0_i32_85 : BitVec 32 := 0#32
  let v126 : BitVec 1 := Scalar.cmpi .slt v124 c0_i32_85
  let c0_i32_86 : BitVec 32 := 0#32
  let v127 : BitVec 1 := Scalar.cmpi .slt v123 c0_i32_86
  let v128 : BitVec 1 := Scalar.xori v126 v127
  let c0_i32_84 : BitVec 32 := 0#32
  let v125 : BitVec 1 := Scalar.cmpi .ne v124 c0_i32_84
  let v129 : BitVec 1 := Scalar.andi v128 v125
  let v130 : BitVec 32 := Scalar.addi v124 v123
  let v131 : BitVec 32 := Scalar.select v129 v130 v124
  let c1_i32_88 : BitVec 32 := 1#32
  let v132 : BitVec 32 := Scalar.muli v131 c1_i32_88
  let v133 : BitVec 32 := Scalar.addi c0_i32_89 v132
  v133.toNat
def k0_dev11 (d0 : Dev nD) : Nat :=
  let c0_i32_98 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v134 : BitVec 32 := Scalar.addi v2 c11_i32
  let c16_i32_90 : BitVec 32 := 16#32
  let c0_i32_91 : BitVec 32 := 0#32
  let v135 : BitVec 1 := Scalar.cmpi .eq c16_i32_90 c0_i32_91
  let c1_i32_92 : BitVec 32 := 1#32
  let v136 : BitVec 32 := Scalar.select v135 c1_i32_92 c16_i32_90
  let v137 : BitVec 32 := Scalar.remsi v134 v136
  let c0_i32_94 : BitVec 32 := 0#32
  let v139 : BitVec 1 := Scalar.cmpi .slt v137 c0_i32_94
  let c0_i32_95 : BitVec 32 := 0#32
  let v140 : BitVec 1 := Scalar.cmpi .slt v136 c0_i32_95
  let v141 : BitVec 1 := Scalar.xori v139 v140
  let c0_i32_93 : BitVec 32 := 0#32
  let v138 : BitVec 1 := Scalar.cmpi .ne v137 c0_i32_93
  let v142 : BitVec 1 := Scalar.andi v141 v138
  let v143 : BitVec 32 := Scalar.addi v137 v136
  let v144 : BitVec 32 := Scalar.select v142 v143 v137
  let c1_i32_97 : BitVec 32 := 1#32
  let v145 : BitVec 32 := Scalar.muli v144 c1_i32_97
  let v146 : BitVec 32 := Scalar.addi c0_i32_98 v145
  v146.toNat
def k0_dev12 (d0 : Dev nD) : Nat :=
  let c0_i32_107 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v147 : BitVec 32 := Scalar.addi v2 c12_i32
  let c16_i32_99 : BitVec 32 := 16#32
  let c0_i32_100 : BitVec 32 := 0#32
  let v148 : BitVec 1 := Scalar.cmpi .eq c16_i32_99 c0_i32_100
  let c1_i32_101 : BitVec 32 := 1#32
  let v149 : BitVec 32 := Scalar.select v148 c1_i32_101 c16_i32_99
  let v150 : BitVec 32 := Scalar.remsi v147 v149
  let c0_i32_103 : BitVec 32 := 0#32
  let v152 : BitVec 1 := Scalar.cmpi .slt v150 c0_i32_103
  let c0_i32_104 : BitVec 32 := 0#32
  let v153 : BitVec 1 := Scalar.cmpi .slt v149 c0_i32_104
  let v154 : BitVec 1 := Scalar.xori v152 v153
  let c0_i32_102 : BitVec 32 := 0#32
  let v151 : BitVec 1 := Scalar.cmpi .ne v150 c0_i32_102
  let v155 : BitVec 1 := Scalar.andi v154 v151
  let v156 : BitVec 32 := Scalar.addi v150 v149
  let v157 : BitVec 32 := Scalar.select v155 v156 v150
  let c1_i32_106 : BitVec 32 := 1#32
  let v158 : BitVec 32 := Scalar.muli v157 c1_i32_106
  let v159 : BitVec 32 := Scalar.addi c0_i32_107 v158
  v159.toNat
def k0_dev13 (d0 : Dev nD) : Nat :=
  let c0_i32_116 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v160 : BitVec 32 := Scalar.addi v2 c13_i32
  let c16_i32_108 : BitVec 32 := 16#32
  let c0_i32_109 : BitVec 32 := 0#32
  let v161 : BitVec 1 := Scalar.cmpi .eq c16_i32_108 c0_i32_109
  let c1_i32_110 : BitVec 32 := 1#32
  let v162 : BitVec 32 := Scalar.select v161 c1_i32_110 c16_i32_108
  let v163 : BitVec 32 := Scalar.remsi v160 v162
  let c0_i32_112 : BitVec 32 := 0#32
  let v165 : BitVec 1 := Scalar.cmpi .slt v163 c0_i32_112
  let c0_i32_113 : BitVec 32 := 0#32
  let v166 : BitVec 1 := Scalar.cmpi .slt v162 c0_i32_113
  let v167 : BitVec 1 := Scalar.xori v165 v166
  let c0_i32_111 : BitVec 32 := 0#32
  let v164 : BitVec 1 := Scalar.cmpi .ne v163 c0_i32_111
  let v168 : BitVec 1 := Scalar.andi v167 v164
  let v169 : BitVec 32 := Scalar.addi v163 v162
  let v170 : BitVec 32 := Scalar.select v168 v169 v163
  let c1_i32_115 : BitVec 32 := 1#32
  let v171 : BitVec 32 := Scalar.muli v170 c1_i32_115
  let v172 : BitVec 32 := Scalar.addi c0_i32_116 v171
  v172.toNat
def k0_dev14 (d0 : Dev nD) : Nat :=
  let c0_i32_125 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v173 : BitVec 32 := Scalar.addi v2 c14_i32
  let c16_i32_117 : BitVec 32 := 16#32
  let c0_i32_118 : BitVec 32 := 0#32
  let v174 : BitVec 1 := Scalar.cmpi .eq c16_i32_117 c0_i32_118
  let c1_i32_119 : BitVec 32 := 1#32
  let v175 : BitVec 32 := Scalar.select v174 c1_i32_119 c16_i32_117
  let v176 : BitVec 32 := Scalar.remsi v173 v175
  let c0_i32_121 : BitVec 32 := 0#32
  let v178 : BitVec 1 := Scalar.cmpi .slt v176 c0_i32_121
  let c0_i32_122 : BitVec 32 := 0#32
  let v179 : BitVec 1 := Scalar.cmpi .slt v175 c0_i32_122
  let v180 : BitVec 1 := Scalar.xori v178 v179
  let c0_i32_120 : BitVec 32 := 0#32
  let v177 : BitVec 1 := Scalar.cmpi .ne v176 c0_i32_120
  let v181 : BitVec 1 := Scalar.andi v180 v177
  let v182 : BitVec 32 := Scalar.addi v176 v175
  let v183 : BitVec 32 := Scalar.select v181 v182 v176
  let c1_i32_124 : BitVec 32 := 1#32
  let v184 : BitVec 32 := Scalar.muli v183 c1_i32_124
  let v185 : BitVec 32 := Scalar.addi c0_i32_125 v184
  v185.toNat
def k0_dev15 (d0 : Dev nD) : Nat :=
  let c0_i32_134 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v186 : BitVec 32 := Scalar.addi v2 c15_i32
  let c16_i32_126 : BitVec 32 := 16#32
  let c0_i32_127 : BitVec 32 := 0#32
  let v187 : BitVec 1 := Scalar.cmpi .eq c16_i32_126 c0_i32_127
  let c1_i32_128 : BitVec 32 := 1#32
  let v188 : BitVec 32 := Scalar.select v187 c1_i32_128 c16_i32_126
  let v189 : BitVec 32 := Scalar.remsi v186 v188
  let c0_i32_130 : BitVec 32 := 0#32
  let v191 : BitVec 1 := Scalar.cmpi .slt v189 c0_i32_130
  let c0_i32_131 : BitVec 32 := 0#32
  let v192 : BitVec 1 := Scalar.cmpi .slt v188 c0_i32_131
  let v193 : BitVec 1 := Scalar.xori v191 v192
  let c0_i32_129 : BitVec 32 := 0#32
  let v190 : BitVec 1 := Scalar.cmpi .ne v189 c0_i32_129
  let v194 : BitVec 1 := Scalar.andi v193 v190
  let v195 : BitVec 32 := Scalar.addi v189 v188
  let v196 : BitVec 32 := Scalar.select v194 v195 v189
  let c1_i32_133 : BitVec 32 := 1#32
  let v197 : BitVec 32 := Scalar.muli v196 c1_i32_133
  let v198 : BitVec 32 := Scalar.addi c0_i32_134 v197
  v198.toNat
def k0_dev16 (d0 : Dev nD) : Nat :=
  let c0_i32_234 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_222 : BitVec 32 := 1#32
  let v316 : BitVec 32 := Scalar.addi v2 c1_i32_222
  let c16_i32_223 : BitVec 32 := 16#32
  let c0_i32_224 : BitVec 32 := 0#32
  let v317 : BitVec 1 := Scalar.cmpi .eq c16_i32_223 c0_i32_224
  let c1_i32_225 : BitVec 32 := 1#32
  let v318 : BitVec 32 := Scalar.select v317 c1_i32_225 c16_i32_223
  let v319 : BitVec 32 := Scalar.remsi v316 v318
  let c0_i32_227 : BitVec 32 := 0#32
  let v321 : BitVec 1 := Scalar.cmpi .slt v319 c0_i32_227
  let c0_i32_228 : BitVec 32 := 0#32
  let v322 : BitVec 1 := Scalar.cmpi .slt v318 c0_i32_228
  let v323 : BitVec 1 := Scalar.xori v321 v322
  let c0_i32_226 : BitVec 32 := 0#32
  let v320 : BitVec 1 := Scalar.cmpi .ne v319 c0_i32_226
  let v324 : BitVec 1 := Scalar.andi v323 v320
  let v325 : BitVec 32 := Scalar.addi v319 v318
  let v326 : BitVec 32 := Scalar.select v324 v325 v319
  let c1_i32_233 : BitVec 32 := 1#32
  let v327 : BitVec 32 := Scalar.muli v326 c1_i32_233
  let v328 : BitVec 32 := Scalar.addi c0_i32_234 v327
  v328.toNat
def k0_dev17 (d0 : Dev nD) : Nat :=
  let c0_i32_251 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_239 : BitVec 32 := 2#32
  let v337 : BitVec 32 := Scalar.addi v2 c2_i32_239
  let c16_i32_240 : BitVec 32 := 16#32
  let c0_i32_241 : BitVec 32 := 0#32
  let v338 : BitVec 1 := Scalar.cmpi .eq c16_i32_240 c0_i32_241
  let c1_i32_242 : BitVec 32 := 1#32
  let v339 : BitVec 32 := Scalar.select v338 c1_i32_242 c16_i32_240
  let v340 : BitVec 32 := Scalar.remsi v337 v339
  let c0_i32_244 : BitVec 32 := 0#32
  let v342 : BitVec 1 := Scalar.cmpi .slt v340 c0_i32_244
  let c0_i32_245 : BitVec 32 := 0#32
  let v343 : BitVec 1 := Scalar.cmpi .slt v339 c0_i32_245
  let v344 : BitVec 1 := Scalar.xori v342 v343
  let c0_i32_243 : BitVec 32 := 0#32
  let v341 : BitVec 1 := Scalar.cmpi .ne v340 c0_i32_243
  let v345 : BitVec 1 := Scalar.andi v344 v341
  let v346 : BitVec 32 := Scalar.addi v340 v339
  let v347 : BitVec 32 := Scalar.select v345 v346 v340
  let c1_i32_250 : BitVec 32 := 1#32
  let v348 : BitVec 32 := Scalar.muli v347 c1_i32_250
  let v349 : BitVec 32 := Scalar.addi c0_i32_251 v348
  v349.toNat
def k0_dev18 (d0 : Dev nD) : Nat :=
  let c0_i32_268 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_256 : BitVec 32 := 3#32
  let v358 : BitVec 32 := Scalar.addi v2 c3_i32_256
  let c16_i32_257 : BitVec 32 := 16#32
  let c0_i32_258 : BitVec 32 := 0#32
  let v359 : BitVec 1 := Scalar.cmpi .eq c16_i32_257 c0_i32_258
  let c1_i32_259 : BitVec 32 := 1#32
  let v360 : BitVec 32 := Scalar.select v359 c1_i32_259 c16_i32_257
  let v361 : BitVec 32 := Scalar.remsi v358 v360
  let c0_i32_261 : BitVec 32 := 0#32
  let v363 : BitVec 1 := Scalar.cmpi .slt v361 c0_i32_261
  let c0_i32_262 : BitVec 32 := 0#32
  let v364 : BitVec 1 := Scalar.cmpi .slt v360 c0_i32_262
  let v365 : BitVec 1 := Scalar.xori v363 v364
  let c0_i32_260 : BitVec 32 := 0#32
  let v362 : BitVec 1 := Scalar.cmpi .ne v361 c0_i32_260
  let v366 : BitVec 1 := Scalar.andi v365 v362
  let v367 : BitVec 32 := Scalar.addi v361 v360
  let v368 : BitVec 32 := Scalar.select v366 v367 v361
  let c1_i32_267 : BitVec 32 := 1#32
  let v369 : BitVec 32 := Scalar.muli v368 c1_i32_267
  let v370 : BitVec 32 := Scalar.addi c0_i32_268 v369
  v370.toNat
def k0_dev19 (d0 : Dev nD) : Nat :=
  let c0_i32_285 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_273 : BitVec 32 := 4#32
  let v379 : BitVec 32 := Scalar.addi v2 c4_i32_273
  let c16_i32_274 : BitVec 32 := 16#32
  let c0_i32_275 : BitVec 32 := 0#32
  let v380 : BitVec 1 := Scalar.cmpi .eq c16_i32_274 c0_i32_275
  let c1_i32_276 : BitVec 32 := 1#32
  let v381 : BitVec 32 := Scalar.select v380 c1_i32_276 c16_i32_274
  let v382 : BitVec 32 := Scalar.remsi v379 v381
  let c0_i32_278 : BitVec 32 := 0#32
  let v384 : BitVec 1 := Scalar.cmpi .slt v382 c0_i32_278
  let c0_i32_279 : BitVec 32 := 0#32
  let v385 : BitVec 1 := Scalar.cmpi .slt v381 c0_i32_279
  let v386 : BitVec 1 := Scalar.xori v384 v385
  let c0_i32_277 : BitVec 32 := 0#32
  let v383 : BitVec 1 := Scalar.cmpi .ne v382 c0_i32_277
  let v387 : BitVec 1 := Scalar.andi v386 v383
  let v388 : BitVec 32 := Scalar.addi v382 v381
  let v389 : BitVec 32 := Scalar.select v387 v388 v382
  let c1_i32_284 : BitVec 32 := 1#32
  let v390 : BitVec 32 := Scalar.muli v389 c1_i32_284
  let v391 : BitVec 32 := Scalar.addi c0_i32_285 v390
  v391.toNat
def k0_dev20 (d0 : Dev nD) : Nat :=
  let c0_i32_302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_290 : BitVec 32 := 5#32
  let v400 : BitVec 32 := Scalar.addi v2 c5_i32_290
  let c16_i32_291 : BitVec 32 := 16#32
  let c0_i32_292 : BitVec 32 := 0#32
  let v401 : BitVec 1 := Scalar.cmpi .eq c16_i32_291 c0_i32_292
  let c1_i32_293 : BitVec 32 := 1#32
  let v402 : BitVec 32 := Scalar.select v401 c1_i32_293 c16_i32_291
  let v403 : BitVec 32 := Scalar.remsi v400 v402
  let c0_i32_295 : BitVec 32 := 0#32
  let v405 : BitVec 1 := Scalar.cmpi .slt v403 c0_i32_295
  let c0_i32_296 : BitVec 32 := 0#32
  let v406 : BitVec 1 := Scalar.cmpi .slt v402 c0_i32_296
  let v407 : BitVec 1 := Scalar.xori v405 v406
  let c0_i32_294 : BitVec 32 := 0#32
  let v404 : BitVec 1 := Scalar.cmpi .ne v403 c0_i32_294
  let v408 : BitVec 1 := Scalar.andi v407 v404
  let v409 : BitVec 32 := Scalar.addi v403 v402
  let v410 : BitVec 32 := Scalar.select v408 v409 v403
  let c1_i32_301 : BitVec 32 := 1#32
  let v411 : BitVec 32 := Scalar.muli v410 c1_i32_301
  let v412 : BitVec 32 := Scalar.addi c0_i32_302 v411
  v412.toNat
def k0_dev21 (d0 : Dev nD) : Nat :=
  let c0_i32_319 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_307 : BitVec 32 := 6#32
  let v421 : BitVec 32 := Scalar.addi v2 c6_i32_307
  let c16_i32_308 : BitVec 32 := 16#32
  let c0_i32_309 : BitVec 32 := 0#32
  let v422 : BitVec 1 := Scalar.cmpi .eq c16_i32_308 c0_i32_309
  let c1_i32_310 : BitVec 32 := 1#32
  let v423 : BitVec 32 := Scalar.select v422 c1_i32_310 c16_i32_308
  let v424 : BitVec 32 := Scalar.remsi v421 v423
  let c0_i32_312 : BitVec 32 := 0#32
  let v426 : BitVec 1 := Scalar.cmpi .slt v424 c0_i32_312
  let c0_i32_313 : BitVec 32 := 0#32
  let v427 : BitVec 1 := Scalar.cmpi .slt v423 c0_i32_313
  let v428 : BitVec 1 := Scalar.xori v426 v427
  let c0_i32_311 : BitVec 32 := 0#32
  let v425 : BitVec 1 := Scalar.cmpi .ne v424 c0_i32_311
  let v429 : BitVec 1 := Scalar.andi v428 v425
  let v430 : BitVec 32 := Scalar.addi v424 v423
  let v431 : BitVec 32 := Scalar.select v429 v430 v424
  let c1_i32_318 : BitVec 32 := 1#32
  let v432 : BitVec 32 := Scalar.muli v431 c1_i32_318
  let v433 : BitVec 32 := Scalar.addi c0_i32_319 v432
  v433.toNat
def k0_dev22 (d0 : Dev nD) : Nat :=
  let c0_i32_336 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_324 : BitVec 32 := 7#32
  let v442 : BitVec 32 := Scalar.addi v2 c7_i32_324
  let c16_i32_325 : BitVec 32 := 16#32
  let c0_i32_326 : BitVec 32 := 0#32
  let v443 : BitVec 1 := Scalar.cmpi .eq c16_i32_325 c0_i32_326
  let c1_i32_327 : BitVec 32 := 1#32
  let v444 : BitVec 32 := Scalar.select v443 c1_i32_327 c16_i32_325
  let v445 : BitVec 32 := Scalar.remsi v442 v444
  let c0_i32_329 : BitVec 32 := 0#32
  let v447 : BitVec 1 := Scalar.cmpi .slt v445 c0_i32_329
  let c0_i32_330 : BitVec 32 := 0#32
  let v448 : BitVec 1 := Scalar.cmpi .slt v444 c0_i32_330
  let v449 : BitVec 1 := Scalar.xori v447 v448
  let c0_i32_328 : BitVec 32 := 0#32
  let v446 : BitVec 1 := Scalar.cmpi .ne v445 c0_i32_328
  let v450 : BitVec 1 := Scalar.andi v449 v446
  let v451 : BitVec 32 := Scalar.addi v445 v444
  let v452 : BitVec 32 := Scalar.select v450 v451 v445
  let c1_i32_335 : BitVec 32 := 1#32
  let v453 : BitVec 32 := Scalar.muli v452 c1_i32_335
  let v454 : BitVec 32 := Scalar.addi c0_i32_336 v453
  v454.toNat
def k0_dev23 (d0 : Dev nD) : Nat :=
  let c0_i32_353 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_341 : BitVec 32 := 8#32
  let v463 : BitVec 32 := Scalar.addi v2 c8_i32_341
  let c16_i32_342 : BitVec 32 := 16#32
  let c0_i32_343 : BitVec 32 := 0#32
  let v464 : BitVec 1 := Scalar.cmpi .eq c16_i32_342 c0_i32_343
  let c1_i32_344 : BitVec 32 := 1#32
  let v465 : BitVec 32 := Scalar.select v464 c1_i32_344 c16_i32_342
  let v466 : BitVec 32 := Scalar.remsi v463 v465
  let c0_i32_346 : BitVec 32 := 0#32
  let v468 : BitVec 1 := Scalar.cmpi .slt v466 c0_i32_346
  let c0_i32_347 : BitVec 32 := 0#32
  let v469 : BitVec 1 := Scalar.cmpi .slt v465 c0_i32_347
  let v470 : BitVec 1 := Scalar.xori v468 v469
  let c0_i32_345 : BitVec 32 := 0#32
  let v467 : BitVec 1 := Scalar.cmpi .ne v466 c0_i32_345
  let v471 : BitVec 1 := Scalar.andi v470 v467
  let v472 : BitVec 32 := Scalar.addi v466 v465
  let v473 : BitVec 32 := Scalar.select v471 v472 v466
  let c1_i32_352 : BitVec 32 := 1#32
  let v474 : BitVec 32 := Scalar.muli v473 c1_i32_352
  let v475 : BitVec 32 := Scalar.addi c0_i32_353 v474
  v475.toNat
def k0_dev24 (d0 : Dev nD) : Nat :=
  let c0_i32_370 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_358 : BitVec 32 := 9#32
  let v484 : BitVec 32 := Scalar.addi v2 c9_i32_358
  let c16_i32_359 : BitVec 32 := 16#32
  let c0_i32_360 : BitVec 32 := 0#32
  let v485 : BitVec 1 := Scalar.cmpi .eq c16_i32_359 c0_i32_360
  let c1_i32_361 : BitVec 32 := 1#32
  let v486 : BitVec 32 := Scalar.select v485 c1_i32_361 c16_i32_359
  let v487 : BitVec 32 := Scalar.remsi v484 v486
  let c0_i32_363 : BitVec 32 := 0#32
  let v489 : BitVec 1 := Scalar.cmpi .slt v487 c0_i32_363
  let c0_i32_364 : BitVec 32 := 0#32
  let v490 : BitVec 1 := Scalar.cmpi .slt v486 c0_i32_364
  let v491 : BitVec 1 := Scalar.xori v489 v490
  let c0_i32_362 : BitVec 32 := 0#32
  let v488 : BitVec 1 := Scalar.cmpi .ne v487 c0_i32_362
  let v492 : BitVec 1 := Scalar.andi v491 v488
  let v493 : BitVec 32 := Scalar.addi v487 v486
  let v494 : BitVec 32 := Scalar.select v492 v493 v487
  let c1_i32_369 : BitVec 32 := 1#32
  let v495 : BitVec 32 := Scalar.muli v494 c1_i32_369
  let v496 : BitVec 32 := Scalar.addi c0_i32_370 v495
  v496.toNat
def k0_dev25 (d0 : Dev nD) : Nat :=
  let c0_i32_387 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_375 : BitVec 32 := 10#32
  let v505 : BitVec 32 := Scalar.addi v2 c10_i32_375
  let c16_i32_376 : BitVec 32 := 16#32
  let c0_i32_377 : BitVec 32 := 0#32
  let v506 : BitVec 1 := Scalar.cmpi .eq c16_i32_376 c0_i32_377
  let c1_i32_378 : BitVec 32 := 1#32
  let v507 : BitVec 32 := Scalar.select v506 c1_i32_378 c16_i32_376
  let v508 : BitVec 32 := Scalar.remsi v505 v507
  let c0_i32_380 : BitVec 32 := 0#32
  let v510 : BitVec 1 := Scalar.cmpi .slt v508 c0_i32_380
  let c0_i32_381 : BitVec 32 := 0#32
  let v511 : BitVec 1 := Scalar.cmpi .slt v507 c0_i32_381
  let v512 : BitVec 1 := Scalar.xori v510 v511
  let c0_i32_379 : BitVec 32 := 0#32
  let v509 : BitVec 1 := Scalar.cmpi .ne v508 c0_i32_379
  let v513 : BitVec 1 := Scalar.andi v512 v509
  let v514 : BitVec 32 := Scalar.addi v508 v507
  let v515 : BitVec 32 := Scalar.select v513 v514 v508
  let c1_i32_386 : BitVec 32 := 1#32
  let v516 : BitVec 32 := Scalar.muli v515 c1_i32_386
  let v517 : BitVec 32 := Scalar.addi c0_i32_387 v516
  v517.toNat
def k0_dev26 (d0 : Dev nD) : Nat :=
  let c0_i32_404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_392 : BitVec 32 := 11#32
  let v526 : BitVec 32 := Scalar.addi v2 c11_i32_392
  let c16_i32_393 : BitVec 32 := 16#32
  let c0_i32_394 : BitVec 32 := 0#32
  let v527 : BitVec 1 := Scalar.cmpi .eq c16_i32_393 c0_i32_394
  let c1_i32_395 : BitVec 32 := 1#32
  let v528 : BitVec 32 := Scalar.select v527 c1_i32_395 c16_i32_393
  let v529 : BitVec 32 := Scalar.remsi v526 v528
  let c0_i32_397 : BitVec 32 := 0#32
  let v531 : BitVec 1 := Scalar.cmpi .slt v529 c0_i32_397
  let c0_i32_398 : BitVec 32 := 0#32
  let v532 : BitVec 1 := Scalar.cmpi .slt v528 c0_i32_398
  let v533 : BitVec 1 := Scalar.xori v531 v532
  let c0_i32_396 : BitVec 32 := 0#32
  let v530 : BitVec 1 := Scalar.cmpi .ne v529 c0_i32_396
  let v534 : BitVec 1 := Scalar.andi v533 v530
  let v535 : BitVec 32 := Scalar.addi v529 v528
  let v536 : BitVec 32 := Scalar.select v534 v535 v529
  let c1_i32_403 : BitVec 32 := 1#32
  let v537 : BitVec 32 := Scalar.muli v536 c1_i32_403
  let v538 : BitVec 32 := Scalar.addi c0_i32_404 v537
  v538.toNat
def k0_dev27 (d0 : Dev nD) : Nat :=
  let c0_i32_421 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_409 : BitVec 32 := 12#32
  let v547 : BitVec 32 := Scalar.addi v2 c12_i32_409
  let c16_i32_410 : BitVec 32 := 16#32
  let c0_i32_411 : BitVec 32 := 0#32
  let v548 : BitVec 1 := Scalar.cmpi .eq c16_i32_410 c0_i32_411
  let c1_i32_412 : BitVec 32 := 1#32
  let v549 : BitVec 32 := Scalar.select v548 c1_i32_412 c16_i32_410
  let v550 : BitVec 32 := Scalar.remsi v547 v549
  let c0_i32_414 : BitVec 32 := 0#32
  let v552 : BitVec 1 := Scalar.cmpi .slt v550 c0_i32_414
  let c0_i32_415 : BitVec 32 := 0#32
  let v553 : BitVec 1 := Scalar.cmpi .slt v549 c0_i32_415
  let v554 : BitVec 1 := Scalar.xori v552 v553
  let c0_i32_413 : BitVec 32 := 0#32
  let v551 : BitVec 1 := Scalar.cmpi .ne v550 c0_i32_413
  let v555 : BitVec 1 := Scalar.andi v554 v551
  let v556 : BitVec 32 := Scalar.addi v550 v549
  let v557 : BitVec 32 := Scalar.select v555 v556 v550
  let c1_i32_420 : BitVec 32 := 1#32
  let v558 : BitVec 32 := Scalar.muli v557 c1_i32_420
  let v559 : BitVec 32 := Scalar.addi c0_i32_421 v558
  v559.toNat
def k0_dev28 (d0 : Dev nD) : Nat :=
  let c0_i32_438 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_426 : BitVec 32 := 13#32
  let v568 : BitVec 32 := Scalar.addi v2 c13_i32_426
  let c16_i32_427 : BitVec 32 := 16#32
  let c0_i32_428 : BitVec 32 := 0#32
  let v569 : BitVec 1 := Scalar.cmpi .eq c16_i32_427 c0_i32_428
  let c1_i32_429 : BitVec 32 := 1#32
  let v570 : BitVec 32 := Scalar.select v569 c1_i32_429 c16_i32_427
  let v571 : BitVec 32 := Scalar.remsi v568 v570
  let c0_i32_431 : BitVec 32 := 0#32
  let v573 : BitVec 1 := Scalar.cmpi .slt v571 c0_i32_431
  let c0_i32_432 : BitVec 32 := 0#32
  let v574 : BitVec 1 := Scalar.cmpi .slt v570 c0_i32_432
  let v575 : BitVec 1 := Scalar.xori v573 v574
  let c0_i32_430 : BitVec 32 := 0#32
  let v572 : BitVec 1 := Scalar.cmpi .ne v571 c0_i32_430
  let v576 : BitVec 1 := Scalar.andi v575 v572
  let v577 : BitVec 32 := Scalar.addi v571 v570
  let v578 : BitVec 32 := Scalar.select v576 v577 v571
  let c1_i32_437 : BitVec 32 := 1#32
  let v579 : BitVec 32 := Scalar.muli v578 c1_i32_437
  let v580 : BitVec 32 := Scalar.addi c0_i32_438 v579
  v580.toNat
def k0_dev29 (d0 : Dev nD) : Nat :=
  let c0_i32_455 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_443 : BitVec 32 := 14#32
  let v589 : BitVec 32 := Scalar.addi v2 c14_i32_443
  let c16_i32_444 : BitVec 32 := 16#32
  let c0_i32_445 : BitVec 32 := 0#32
  let v590 : BitVec 1 := Scalar.cmpi .eq c16_i32_444 c0_i32_445
  let c1_i32_446 : BitVec 32 := 1#32
  let v591 : BitVec 32 := Scalar.select v590 c1_i32_446 c16_i32_444
  let v592 : BitVec 32 := Scalar.remsi v589 v591
  let c0_i32_448 : BitVec 32 := 0#32
  let v594 : BitVec 1 := Scalar.cmpi .slt v592 c0_i32_448
  let c0_i32_449 : BitVec 32 := 0#32
  let v595 : BitVec 1 := Scalar.cmpi .slt v591 c0_i32_449
  let v596 : BitVec 1 := Scalar.xori v594 v595
  let c0_i32_447 : BitVec 32 := 0#32
  let v593 : BitVec 1 := Scalar.cmpi .ne v592 c0_i32_447
  let v597 : BitVec 1 := Scalar.andi v596 v593
  let v598 : BitVec 32 := Scalar.addi v592 v591
  let v599 : BitVec 32 := Scalar.select v597 v598 v592
  let c1_i32_454 : BitVec 32 := 1#32
  let v600 : BitVec 32 := Scalar.muli v599 c1_i32_454
  let v601 : BitVec 32 := Scalar.addi c0_i32_455 v600
  v601.toNat
def k0_dev30 (d0 : Dev nD) : Nat :=
  let c0_i32_472 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_460 : BitVec 32 := 15#32
  let v610 : BitVec 32 := Scalar.addi v2 c15_i32_460
  let c16_i32_461 : BitVec 32 := 16#32
  let c0_i32_462 : BitVec 32 := 0#32
  let v611 : BitVec 1 := Scalar.cmpi .eq c16_i32_461 c0_i32_462
  let c1_i32_463 : BitVec 32 := 1#32
  let v612 : BitVec 32 := Scalar.select v611 c1_i32_463 c16_i32_461
  let v613 : BitVec 32 := Scalar.remsi v610 v612
  let c0_i32_465 : BitVec 32 := 0#32
  let v615 : BitVec 1 := Scalar.cmpi .slt v613 c0_i32_465
  let c0_i32_466 : BitVec 32 := 0#32
  let v616 : BitVec 1 := Scalar.cmpi .slt v612 c0_i32_466
  let v617 : BitVec 1 := Scalar.xori v615 v616
  let c0_i32_464 : BitVec 32 := 0#32
  let v614 : BitVec 1 := Scalar.cmpi .ne v613 c0_i32_464
  let v618 : BitVec 1 := Scalar.andi v617 v614
  let v619 : BitVec 32 := Scalar.addi v613 v612
  let v620 : BitVec 32 := Scalar.select v618 v619 v613
  let c1_i32_471 : BitVec 32 := 1#32
  let v621 : BitVec 32 := Scalar.muli v620 c1_i32_471
  let v622 : BitVec 32 := Scalar.addi c0_i32_472 v621
  v622.toNat
abbrev stage0_0 : Fin 1 → Memref sig .tc .vmem S64x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S2x262144x64 : Shape := ⟨3, ![2, 262144, 64]⟩
abbrev S64x128 : Shape := ⟨2, ![64, 128]⟩
abbrev S_ : Shape := ⟨0, ![]⟩
abbrev S2x64 : Shape := ⟨2, ![2, 64]⟩
abbrev S2x1x64 : Shape := ⟨3, ![2, 1, 64]⟩
abbrev S2x262144x128 : Shape := ⟨3, ![2, 262144, 128]⟩

abbrev nBuf : Space → Nat
  | .hbm => 48
  | .vmem => 0
  | .smem => 0
  | _ => 0

abbrev bufTy : (tb : Table) → Fin (tcTables nBuf tb) → BufTy
  | .hbm, ⟨0, _⟩ => ⟨S2x262144x64, .f32⟩
  | .hbm, ⟨1, _⟩ => ⟨S64x128, .f32⟩
  | .hbm, ⟨2, _⟩ => ⟨S_, .f32⟩
  | .hbm, ⟨3, _⟩ => ⟨S2x64, .f32⟩
  | .hbm, ⟨4, _⟩ => ⟨S2x1x64, .f32⟩
  | .hbm, ⟨5, _⟩ => ⟨S_, .f32⟩
  | .hbm, ⟨6, _⟩ => ⟨S2x1x64, .f32⟩
  | .hbm, ⟨7, _⟩ => ⟨S2x1x64, .f32⟩
  | .hbm, ⟨8, _⟩ => ⟨S_, .i32⟩
  | .hbm, ⟨9, _⟩ => ⟨S_, .f32⟩
  | .hbm, ⟨10, _⟩ => ⟨S2x64, .f32⟩
  | .hbm, ⟨11, _⟩ => ⟨S2x1x64, .f32⟩
  | .hbm, ⟨12, _⟩ => ⟨S_, .f32⟩
  | .hbm, ⟨13, _⟩ => ⟨S2x1x64, .f32⟩
  | .hbm, ⟨14, _⟩ => ⟨S2x1x64, .f32⟩
  | .hbm, ⟨15, _⟩ => ⟨S2x262144x64, .f32⟩
  | .hbm, ⟨16, _⟩ => ⟨S2x262144x64, .f32⟩
  | .hbm, ⟨17, _⟩ => ⟨S2x262144x64, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S2x64, .f32⟩
  | .hbm, ⟨23, _⟩ => ⟨S2x1x64, .f32⟩
  | .hbm, ⟨24, _⟩ => ⟨S2x1x64, .f32⟩
  | .hbm, ⟨25, _⟩ => ⟨S2x1x64, .f32⟩
  | .hbm, ⟨26, _⟩ => ⟨S_, .f32⟩
  | .hbm, ⟨27, _⟩ => ⟨S_, .i1⟩
  | .hbm, ⟨28, _⟩ => ⟨S_, .f32⟩
  | .hbm, ⟨29, _⟩ => ⟨S_, .f32⟩
  | .hbm, ⟨30, _⟩ => ⟨S2x1x64, .f32⟩
  | .hbm, ⟨31, _⟩ => ⟨S2x1x64, .f32⟩
  | .hbm, ⟨32, _⟩ => ⟨S2x262144x64, .f32⟩
  | .hbm, ⟨33, _⟩ => ⟨S2x262144x64, .f32⟩
  | .hbm, ⟨34, _⟩ => ⟨S_, .f32⟩
  | .hbm, ⟨35, _⟩ => ⟨S2x1x64, .f32⟩
  | .hbm, ⟨36, _⟩ => ⟨S2x1x64, .f32⟩
  | .hbm, ⟨37, _⟩ => ⟨S2x1x64, .f32⟩
  | .hbm, ⟨38, _⟩ => ⟨S2x262144x64, .f32⟩
  | .hbm, ⟨39, _⟩ => ⟨S2x262144x64, .f32⟩
  | .hbm, ⟨40, _⟩ => ⟨S2x262144x64, .f32⟩
  | .hbm, ⟨41, _⟩ => ⟨S2x262144x64, .f32⟩
  | .hbm, ⟨42, _⟩ => ⟨S_, .f32⟩
  | .hbm, ⟨43, _⟩ => ⟨S2x262144x64, .f32⟩
  | .hbm, ⟨44, _⟩ => ⟨S2x262144x64, .f32⟩
  | .hbm, ⟨45, _⟩ => ⟨S2x262144x64, .f32⟩
  | .hbm, ⟨46, _⟩ => ⟨S2x262144x128, .f32⟩
  | .hbm, ⟨47, _⟩ => ⟨S2x262144x128, .bf16⟩
  | _, _ => ⟨S2x262144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.hbm, 8, rfl⟩
abbrev main_call0_cst : Ref sig .tc := ⟨.hbm, 9, rfl⟩
abbrev main_call0_v0 : Ref sig .tc := ⟨.hbm, 10, rfl⟩
abbrev main_call0_v1 : Ref sig .tc := ⟨.hbm, 11, rfl⟩
abbrev main_call0_cst_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_cst_1 : Ref sig .tc := ⟨.hbm, 19, rfl⟩
abbrev main_call0_v8 : Ref sig .tc := ⟨.hbm, 20, rfl⟩
abbrev main_call0_cst_2 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_v12 : Ref sig .tc := ⟨.hbm, 25, rfl⟩
abbrev main_call0_cst_3 : Ref sig .tc := ⟨.hbm, 26, rfl⟩
abbrev main_call0_v13 : Ref sig .tc := ⟨.hbm, 27, rfl⟩
abbrev main_call0_cst_4 : Ref sig .tc := ⟨.hbm, 28, rfl⟩
abbrev main_call0_call0_v0 : Ref sig .tc := ⟨.hbm, 29, rfl⟩
abbrev main_call0_call0_v1 : Ref sig .tc := ⟨.hbm, 30, rfl⟩
abbrev main_v4 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_v7 : Ref sig .tc := ⟨.hbm, 35, rfl⟩
abbrev main_v8 : Ref sig .tc := ⟨.hbm, 36, rfl⟩
abbrev main_v9 : Ref sig .tc := ⟨.hbm, 37, rfl⟩
abbrev main_v10 : Ref sig .tc := ⟨.hbm, 38, rfl⟩
abbrev main_v11 : Ref sig .tc := ⟨.hbm, 39, rfl⟩
abbrev main_v12 : Ref sig .tc := ⟨.hbm, 40, rfl⟩
abbrev main_v13 : Ref sig .tc := ⟨.hbm, 41, rfl⟩
abbrev main_cst_2 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩

abbrev nD : Nat := 1
abbrev τ : Topo := Topo.v7x

variable {F : FTy → Type} [FloatOps F]
-- ==== Proof.Protocol.lean ====
/-
# The cross-device protocol of the kernel

Sixteen devices; every device computes four rows of 64 statistics of its shard and sends them to every other
device. Device `c` sends to device `c + d` (`d = 1 … 15`, modulo 16) into slot `d` of that device's 16-slot
buffer, so that slot `d` of device `c` is filled by device `c - d`, and slot `0` holds the device's own statistics.

The cells, per device `c`:
* the barrier cell (the runtime's barrier semaphore): device `c + s` pays duty `s` (`s = 1 … 15`) of one unit, handing over
  slot `s` of ITS buffer — the slot `c` will write there — and that it has reached round 0 of that slot's receive cell;
* the receive cell of slot `d`: one duty, paid by the landing of device `c - d`'s copy, handing over the slot filled;
* the send cell of slot `d`: one duty, paid by the departure of `c`'s own copy to `c + d`, handing back the lent share of slot 0.
One round each. Levels: barrier 1, receive 2, everything else 0.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.Value
public import Idealize.ShloMosaic.Lib.ValueLayout
public import Idealize.ShloMosaic.Lib.Transfers
public import Idealize.ShloMosaic.Lib.Tactic

@[expose] public section

noncomputable section

namespace Cert.BnSwish

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTokN shareDrop)
open Idealize.ShloMosaic.Pipeline (Dat Cfg Window BodyObligation cellOf)

variable {F : FTy → Type} [FloatOps F]

/-! ## The resource algebra -/

/-- The protocol's ghost state: duties named by `Fin 16`. -/
abbrev UB : Type := URounds (GSem nD τ sig) (Fin 16)
/-- The pipeline's copy, the protocol's, and the counters of the kernel's own copies. -/
abbrev UU : Type := UR sig nD τ × (UB × Counters)

local notation "𝕄" => MT nD τ sig Unit (Elt F) ℕ UU ℕ

abbrev EP : Emb (UR sig nD τ) (MT nD τ sig Unit (Elt F) ℕ UU ℕ) := embL
def ER : Emb UB (MT nD τ sig Unit (Elt F) ℕ UU ℕ) := (Emb.inl : Emb UB (UB × Counters)).trans embR
instance ER_landsIn : (ER : Emb UB 𝕄).LandsIn (upEmb : UEmb _ 𝕄) := by unfold ER; infer_instance

/-! ## The devices -/

/-- The targets the body computes: signal `d` and transfer `d` name device `c + d`. -/
theorem devs (c : Dev nD) :
    (⟨k0_dev1 c, k0_dev1_lt c⟩ : Dev nD) = c + 1
    ∧ (⟨k0_dev2 c, k0_dev2_lt c⟩ : Dev nD) = c + 2
    ∧ (⟨k0_dev3 c, k0_dev3_lt c⟩ : Dev nD) = c + 3
    ∧ (⟨k0_dev4 c, k0_dev4_lt c⟩ : Dev nD) = c + 4
    ∧ (⟨k0_dev5 c, k0_dev5_lt c⟩ : Dev nD) = c + 5
    ∧ (⟨k0_dev6 c, k0_dev6_lt c⟩ : Dev nD) = c + 6
    ∧ (⟨k0_dev7 c, k0_dev7_lt c⟩ : Dev nD) = c + 7
    ∧ (⟨k0_dev8 c, k0_dev8_lt c⟩ : Dev nD) = c + 8
    ∧ (⟨k0_dev9 c, k0_dev9_lt c⟩ : Dev nD) = c + 9
    ∧ (⟨k0_dev10 c, k0_dev10_lt c⟩ : Dev nD) = c + 10
    ∧ (⟨k0_dev11 c, k0_dev11_lt c⟩ : Dev nD) = c + 11
    ∧ (⟨k0_dev12 c, k0_dev12_lt c⟩ : Dev nD) = c + 12
    ∧ (⟨k0_dev13 c, k0_dev13_lt c⟩ : Dev nD) = c + 13
    ∧ (⟨k0_dev14 c, k0_dev14_lt c⟩ : Dev nD) = c + 14
    ∧ (⟨k0_dev15 c, k0_dev15_lt c⟩ : Dev nD) = c + 15
    ∧ (⟨k0_dev16 c, k0_dev16_lt c⟩ : Dev nD) = c + 1
    ∧ (⟨k0_dev17 c, k0_dev17_lt c⟩ : Dev nD) = c + 2
    ∧ (⟨k0_dev18 c, k0_dev18_lt c⟩ : Dev nD) = c + 3
    ∧ (⟨k0_dev19 c, k0_dev19_lt c⟩ : Dev nD) = c + 4
    ∧ (⟨k0_dev20 c, k0_dev20_lt c⟩ : Dev nD) = c + 5
    ∧ (⟨k0_dev21 c, k0_dev21_lt c⟩ : Dev nD) = c + 6
    ∧ (⟨k0_dev22 c, k0_dev22_lt c⟩ : Dev nD) = c + 7
    ∧ (⟨k0_dev23 c, k0_dev23_lt c⟩ : Dev nD) = c + 8
    ∧ (⟨k0_dev24 c, k0_dev24_lt c⟩ : Dev nD) = c + 9
    ∧ (⟨k0_dev25 c, k0_dev25_lt c⟩ : Dev nD) = c + 10
    ∧ (⟨k0_dev26 c, k0_dev26_lt c⟩ : Dev nD) = c + 11
    ∧ (⟨k0_dev27 c, k0_dev27_lt c⟩ : Dev nD) = c + 12
    ∧ (⟨k0_dev28 c, k0_dev28_lt c⟩ : Dev nD) = c + 13
    ∧ (⟨k0_dev29 c, k0_dev29_lt c⟩ : Dev nD) = c + 14
    ∧ (⟨k0_dev30 c, k0_dev30_lt c⟩ : Dev nD) = c + 15 := by
  revert c; decide

/-! ## Semaphores and cells -/

/-- The runtime's barrier semaphore. -/
abbrev barS : Sem sig := (SemArray.scalar (sig.barrier 0 rfl) : Sems sig S_).sem
theorem inbS (d : Fin 16) : ∀ a, (![d.val] : Fin 1 → ℕ) a + S1.size a ≤ S16.size a := by revert d; decide
/-- The send and the receive semaphore of slot `d`. -/
abbrev sendS (d : Fin 16) : DmaSem sig :=
  ((cc0_scratch5.slice (Rect.unit (s := S16) ![d.val] S1.size (inbS d))).squeeze S_ squeezes_S1_S_ : DmaSems sig S_).sem
abbrev recvS (d : Fin 16) : DmaSem sig :=
  ((cc0_scratch6.slice (Rect.unit (s := S16) ![d.val] S1.size (inbS d))).squeeze S_ squeezes_S1_S_ : DmaSems sig S_).sem

theorem sendS_val (d : Fin 16) : (sendS d).val = 7 + d.val := by revert d; decide
theorem recvS_val (d : Fin 16) : (recvS d).val = 23 + d.val := by revert d; decide

abbrev barCell (c : Dev nD) : GSem nD τ sig := ((c : Thread nD τ), .reg barS)
abbrev sendCell (c : Dev nD) (d : Fin 16) : GSem nD τ sig := ((c : Thread nD τ), .dma (sendS d))
abbrev recvCell (c : Dev nD) (d : Fin 16) : GSem nD τ sig := ((c : Thread nD τ), .dma (recvS d))

/-! ## The slots of the statistics buffer -/

/-- The statistics buffer. -/
abbrev cM : Memref sig .tc .vmem S16x4x64 .f32 := Memref.whole cc0_scratch2
theorem inbM (d : Fin 16) : ∀ a, (![d.val, 0, 0] : Fin 3 → ℕ) a + S1x4x64.size a ≤ S16x4x64.size a := by revert d; decide
/-- Slot `d` as the body names it: the slice, squeezed. -/
abbrev slotM (d : Fin 16) : Memref sig .tc .vmem S4x64 .f32 :=
  (cM.slice (Rect.unit (s := S16x4x64) ![d.val, 0, 0] S1x4x64.size (inbM d)) (fun _ => rfl)).squeeze S4x64 squeezes_S1x4x64_S4x64

/-- The units one slot's transfer credits. -/
abbrev N : ℕ := (slotM 0).view.dmaCredit
theorem N_pos : 0 < N := View.dmaCredit_pos _ (by decide)
theorem N_eq (d : Fin 16) : (slotM d).view.dmaCredit = N := rfl

/-- Where slot `d` places its element `(a, b)`. -/
theorem slot_emb (d : Fin 16) (a : Fin 4) (b : Fin 64) : (slotM d).view.emb (ix2 a b) = (ix3 d a b : S16x4x64.Idx) := by
  show (Rect.unit (s := S16x4x64) ![d.val, 0, 0] S1x4x64.size (inbM d)).emb (Shape.reshapeEquiv _ (ix2 a b)) = _
  rw [reshapeEquiv_ix2_1ab]
  funext i
  apply Fin.ext
  fin_cases i
  · show d.val + 1 * 0 = d.val
    omega
  · show 0 + 1 * a.val = a.val
    omega
  · show 0 + 1 * b.val = b.val
    omega

/-- An index of a 4×64 array by its coordinates. -/
theorem ix2_eta (j : S4x64.Idx) : j = ix2 (j 0) (j 1) := by
  funext a; match a with
  | ⟨0, _⟩ => rfl
  | ⟨1, _⟩ => rfl

/-- The elements of slot `d`. -/
abbrev slotSet (d : Fin 16) : Finset S16x4x64.Idx := Finset.univ.filter fun i : S16x4x64.Idx => (i 0).val = d.val

theorem slot_set (d : Fin 16) : (slotM d).view.set = slotSet d := by
  refine Finset.ext fun (i : S16x4x64.Idx) => ?_
  simp only [View.set, Finset.mem_map, Finset.mem_univ, true_and, slotSet, Finset.mem_filter]
  constructor
  · rintro ⟨j, hj⟩
    rw [ix2_eta j] at hj
    have h := (slot_emb d (j 0) (j 1)).symm.trans hj
    rw [← h]
  · intro h
    refine ⟨ix2 (i 1) (i 2), (slot_emb d (i 1) (i 2)).trans ?_⟩
    funext a; match a with
    | ⟨0, _⟩ => exact Fin.ext h.symm
    | ⟨1, _⟩ => rfl
    | ⟨2, _⟩ => rfl

/-! ## Contents -/

/-- The slots of device `c` once all are filled: slot `d` holds the statistics `st` of device `c - d`. -/
def commFin (st : Dev nD → S4x64.Idx → Elt F .f32) (c : Dev nD) : Buf (Elt F) ((c : Thread nD τ).loc cc0_scratch2) :=
  fun i : S16x4x64.Idx => st (c - (⟨(i 0).val, (i 0).isLt⟩ : Fin 16)) (ix2 (i 1) (i 2))

variable (st : Dev nD → S4x64.Idx → Elt F .f32)

theorem dev_sub (c d : Fin 16) : c - 0 = c + d - d := by revert c d; decide

/-- Slot `0` of device `c` copied into slot `d` of device `c + d`: what the receiver's slot is to hold. -/
theorem landed (c : Dev nD) (d : Fin 16) (fd : Buf (Elt F) ((slotM d).view.loc ((c + d : Dev nD) : Thread nD τ))) :
    ∀ i ∈ (slotM d).view.set, (slotM d).view.write (Elt F) fd ((slotM 0).view.read (Elt F) (commFin st c)) Finset.univ i = commFin st (c + d) i := by
  intro i hi
  obtain ⟨j, -, rfl⟩ := Finset.mem_map.mp hi
  rw [View.write_emb_of_mem _ _ (Finset.mem_univ j), View.read_apply]
  have e (d : Fin 16) : (slotM d).view.emb j = (ix3 d (j 0) (j 1) : S16x4x64.Idx) :=
    (congrArg (slotM d).view.emb (ix2_eta j)).trans (slot_emb d (j 0) (j 1))
  rw [e d, e 0]
  exact congrArg (fun e : Fin 16 => st e (ix2 (j 0) (j 1))) (dev_sub c d)

/-- Slot `d` of device `c`, held at share `q` with contents `f`. -/
def slotPts (c : Dev nD) (d : Fin 16) (q : PosShare TreeShare) (f : Buf (Elt F) ((c : Thread nD τ).loc cc0_scratch2)) : sProp 𝕄 :=
  (slotM d).view.loc (c : Thread nD τ) ↦[(slotM d).view.set]{q} f

instance slotPts_storable (c : Dev nD) (d : Fin 16) (q) (f) : BI.Storable (upEmb : UEmb _ 𝕄) (slotPts (F := F) c d q f) := by
  unfold slotPts; infer_instance

/-! ## The schedule -/

/-- What duty `s` of `c`'s barrier cell hands `c`: slot `s` of device `c + s`, and that it has reached round 0 of that slot's receive cell. -/
def barPay (c : Dev nD) (s : Fin 16) : sProp 𝕄 :=
  iprop((∃ f, slotPts (c + s) s fullShare f) ∗ reached ER (recvCell (c + s) s) 0)
/-- What the landing in slot `d` of device `c` hands it: the slot filled. -/
def recvPay (c : Dev nD) (d : Fin 16) : sProp 𝕄 := slotPts c d fullShare (commFin st c)
/-- What the departure of `c`'s copy `d` hands back: the lent share of slot 0. -/
def sendPay (c : Dev nD) (d : Fin 16) : sProp 𝕄 := slotPts c 0 (shareTokN fullShare d.val) (commFin st c)

/-- Which slot a send or receive semaphore is of. -/
def slotOf (q : DmaSem sig) : Fin 16 := ⟨(q.val + 9) % 16, Nat.mod_lt _ (by decide)⟩
theorem slotOf_send (d : Fin 16) : slotOf (sendS d) = d := by revert d; decide
theorem slotOf_recv (d : Fin 16) : slotOf (recvS d) = d := by revert d; decide

/-- The duties of round 0. -/
def duties0 : SemLoc sig → Finset (Fin 16)
  | .reg _ => Finset.univ.erase 0
  | .dma q => if 7 < q.val ∧ q.val ≠ 23 then {0} else ∅
/-- Their payloads. -/
def pay0 (c : Dev nD) (d : Fin 16) : SemLoc sig → sProp 𝕄
  | .reg _ => barPay c d
  | .dma q => if 23 ≤ q.val then recvPay st c (slotOf q) else sendPay st c (slotOf q)
/-- Their amounts. -/
def amt0 : SemLoc sig → ℕ
  | .reg _ => 1
  | .dma _ => N

/-- The protocol's schedule: one round per cell. -/
def Rd : Rounds.Schedule (GSem nD τ sig) (Fin 16) 𝕄 where
  duties g r := if r = 0 then duties0 g.2 else ∅
  unitless _ := False
  amount g _ _ := amt0 g.2
  payload g _ d := pay0 st g.1.1 d g.2
  amount_pos g _ _ _ := by
    show 0 < amt0 g.2
    rcases g.2 with s | q
    · exact Nat.one_pos
    · exact N_pos

instance Rd_payload_storable (g : GSem nD τ sig) (r : ℕ) (d : Fin 16) :
    BI.Storable (upEmb : UEmb _ 𝕄) ((Rd (F := F) st).payload g r d) := by
  show BI.Storable upEmb (pay0 st g.1.1 d g.2)
  rcases g.2 with s | q
  · show BI.Storable upEmb (barPay g.1.1 d); unfold barPay; infer_instance
  · show BI.Storable upEmb (if 23 ≤ q.val then recvPay st g.1.1 (slotOf q) else sendPay st g.1.1 (slotOf q))
    unfold recvPay sendPay; split <;> infer_instance

section Tables
variable (c : Dev nD) (d : Fin 16)

theorem duties_bar : (Rd (F := F) st).duties (barCell c) 0 = Finset.univ.erase 0 := rfl
theorem duties_send (hd : d ≠ 0) : (Rd (F := F) st).duties (sendCell c d) 0 = {0} := by
  show (if 7 < (sendS d).val ∧ (sendS d).val ≠ 23 then {0} else ∅) = ({0} : Finset (Fin 16))
  rw [sendS_val, if_pos]; have := d.isLt; have : d.val ≠ 0 := fun h => hd (Fin.ext h); omega
theorem duties_recv (hd : d ≠ 0) : (Rd (F := F) st).duties (recvCell c d) 0 = {0} := by
  show (if 7 < (recvS d).val ∧ (recvS d).val ≠ 23 then {0} else ∅) = ({0} : Finset (Fin 16))
  rw [recvS_val, if_pos]; have : d.val ≠ 0 := fun h => hd (Fin.ext h); omega
theorem duties_later (g : GSem nD τ sig) : ∀ r, 1 ≤ r → (Rd (F := F) st).duties g r = ∅ :=
  fun r hr => if_neg (by omega)
theorem payload_bar (s : Fin 16) : (Rd (F := F) st).payload (barCell c) 0 s = barPay c s := rfl
theorem payload_send (s : Fin 16) : (Rd (F := F) st).payload (sendCell c d) 0 s = sendPay st c d := by
  show (if 23 ≤ (sendS d).val then recvPay st c (slotOf (sendS d)) else sendPay st c (slotOf (sendS d))) = _
  rw [slotOf_send, sendS_val, if_neg (by have := d.isLt; omega)]
theorem payload_recv (s : Fin 16) : (Rd (F := F) st).payload (recvCell c d) 0 s = recvPay st c d := by
  show (if 23 ≤ (recvS d).val then recvPay st c (slotOf (recvS d)) else sendPay st c (slotOf (recvS d))) = _
  rw [slotOf_recv, recvS_val, if_pos (by omega)]
theorem expect_bar : (Rd (F := F) st).expect (barCell c) 0 = 15 := by
  unfold Schedule.expect Schedule.amountOf
  rw [duties_bar]
  show (∑ _x ∈ (Finset.univ.erase (0 : Fin 16)), 1) = 15
  decide
theorem expect_send (hd : d ≠ 0) : (Rd (F := F) st).expect (sendCell c d) 0 = N := by
  unfold Schedule.expect Schedule.amountOf; rw [duties_send st c d hd, Finset.sum_singleton]; rfl
theorem expect_recv (hd : d ≠ 0) : (Rd (F := F) st).expect (recvCell c d) 0 = N := by
  unfold Schedule.expect Schedule.amountOf; rw [duties_recv st c d hd, Finset.sum_singleton]; rfl
theorem rest_send (hd : d ≠ 0) : bigSep ((Rd (F := F) st).duties (sendCell c d) 0 \ ∅) (fun s => (Rd (F := F) st).payload (sendCell c d) 0 s) = sendPay st c d := by
  rw [Finset.sdiff_empty, duties_send st c d hd, bigSep_singleton, payload_send]
theorem rest_recv (hd : d ≠ 0) : bigSep ((Rd (F := F) st).duties (recvCell c d) 0 \ ∅) (fun s => (Rd (F := F) st).payload (recvCell c d) 0 s) = recvPay st c d := by
  rw [Finset.sdiff_empty, duties_recv st c d hd, bigSep_singleton, payload_recv]

end Tables

/-! ## What a core owes; the levels -/

/-- The slots `1 … 15`, in program order. -/
abbrev slots : List (Fin 16) := [1, 2, 3, 4, 5, 6, 7, 8, 9, 10, 11, 12, 13, 14, 15]

/-- The arrivals device `c` still owes: copy `d` for each `d` of the list, the head issued first. -/
def owedR (c : Dev nD) : List (Fin 16) → CellTallies nD τ sig Unit
  | [] => 0
  | d :: l => owedR c l + tallyAt (recvCell (c + d) d) () N
/-- All arrivals and the barrier signals of the list. -/
def owedB (c : Dev nD) : List (Fin 16) → CellTallies nD τ sig Unit
  | [] => owedR c slots
  | d :: l => owedB c l + tallyAt (barCell (c + d)) () 1
/-- What device `c` owes at launch. -/
def O₀ (c : Dev nD) : CellTallies nD τ sig Unit := owedB c slots

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl
/-- Barrier cells at level 1, receive cells at 2, everything else at 0. -/
def lvS : SemLoc sig → ℕ
  | .reg _ => 1
  | .dma q => if 23 ≤ q.val then 2 else 0
def lv (g : GSem nD τ sig) (_ : Unit) : ℕ := lvS g.2
theorem lv_recv (c : Dev nD) (d : Fin 16) : lv (recvCell c d) () = 2 := by
  show (if 23 ≤ (recvS d).val then 2 else 0) = 2
  rw [recvS_val, if_pos (by omega)]

theorem tally_pos {g g' : GSem nD τ sig} {u : Unit} {n : ℕ} (h : 0 < tallyAt (Ix := Unit) g () n g' u) : g' = g := by
  rw [tallyAt_apply] at h
  by_contra hn
  rw [if_neg (fun h' => hn h'.1)] at h
  exact Nat.lt_irrefl 0 h

theorem owedR_pos {c : Dev nD} {g : GSem nD τ sig} {u : Unit} : ∀ {l : List (Fin 16)}, 0 < owedR c l g u → ∃ d : Fin 16, g = recvCell (c + d) d
  | [], h => absurd h (Nat.lt_irrefl 0)
  | d :: l, h => by
    unfold owedR at h
    rw [Pi.add_apply, Finsupp.add_apply] at h
    rcases Nat.add_pos_iff_pos_or_pos.mp h with h | h
    · exact owedR_pos h
    · exact ⟨d, tally_pos h⟩
theorem owedB_pos {c : Dev nD} {g : GSem nD τ sig} {u : Unit} : ∀ {l : List (Fin 16)}, 0 < owedB c l g u →
    (∃ d : Fin 16, g = recvCell (c + d) d) ∨ ∃ d : Fin 16, g = barCell (c + d)
  | [], h => Or.inl (owedR_pos h)
  | d :: l, h => by
    unfold owedB at h
    rw [Pi.add_apply, Finsupp.add_apply] at h
    rcases Nat.add_pos_iff_pos_or_pos.mp h with h | h
    · exact owedB_pos h
    · exact Or.inr ⟨d, tally_pos h⟩

/-- A wait on a cell of level 0 while `c` owes its arrivals. -/
theorem mayWait_low (c : Dev nD) (sm : SemLoc sig) (h : lvS sm = 0) (l : List (Fin 16)) :
    (levAts L lv : sProp 𝕄) ⊢ MayWait (c : Thread nD τ) sm () (owedR c l) :=
  MayOwe.of_cut (L := L) (lev := lv) 0 (fun p hp => by rw [Finset.mem_singleton.mp hp, L_tc]; exact Finset.mem_singleton_self _)
    (fun g u hg => by obtain ⟨d, rfl⟩ := owedR_pos hg; exact Finset.mem_singleton_self _)
    (fun p hp => by rw [Finset.mem_singleton.mp hp]; exact le_of_eq h)
    (fun g u hg => by
      obtain ⟨d, rfl⟩ := owedR_pos hg
      exact (lv_recv (c + d) d).symm ▸ (by decide : (0 : ℕ) < 2))

/-- At launch, with the signals owed too. -/
theorem mayWait_start (c : Dev nD) (sm : SemLoc sig) (h : lvS sm = 0) (l : List (Fin 16)) :
    (levAts L lv : sProp 𝕄) ⊢ MayWait (c : Thread nD τ) sm () (owedB c l) :=
  MayOwe.of_cut (L := L) (lev := lv) 0 (fun p hp => by rw [Finset.mem_singleton.mp hp, L_tc]; exact Finset.mem_singleton_self _)
    (fun g u hg => by rcases owedB_pos hg with ⟨d, rfl⟩ | ⟨d, rfl⟩ <;> exact Finset.mem_singleton_self _)
    (fun p hp => by rw [Finset.mem_singleton.mp hp]; exact le_of_eq h)
    (fun g u hg => by
      rcases owedB_pos hg with ⟨d, rfl⟩ | ⟨d, rfl⟩
      · exact (lv_recv (c + d) d).symm ▸ (by decide : (0 : ℕ) < 2)
      · show (0 : ℕ) < 1; decide)

/-- The barrier wait: only arrivals are owed then. -/
theorem mayWait_bar (c : Dev nD) (l : List (Fin 16)) :
    (levAts L lv : sProp 𝕄) ⊢ MayWait (c : Thread nD τ) (.reg barS) () (owedR c l) :=
  MayOwe.of_cut (L := L) (lev := lv) 1 (fun p hp => by rw [Finset.mem_singleton.mp hp, L_tc]; exact Finset.mem_singleton_self _)
    (fun g u hg => by obtain ⟨d, rfl⟩ := owedR_pos hg; exact Finset.mem_singleton_self _)
    (fun p hp => by rw [Finset.mem_singleton.mp hp]; exact le_refl _)
    (fun g u hg => by
      obtain ⟨d, rfl⟩ := owedR_pos hg
      exact (lv_recv (c + d) d).symm ▸ (by decide : (1 : ℕ) < 2))

end Cert.BnSwish

end
-- ==== Proof.Steps.lean ====
/-
# The protocol's steps

One rule per kind of remote step, each at a symbolic slot `d`: the barrier signal, the barrier wait, the transfer, and the
wait on one of the device's own send or receive cells (with the cell closed at once). What a step consumes is bundled per
slot (a KIT), the kits of the slots still to come in a list peeled from the head in program order.
-/
module

public import proofs.«01_k».proof.Proof.Protocol

@[expose] public section

noncomputable section

namespace Cert.BnSwish

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTokN shareDrop)

variable {F : FTy → Type} [FloatOps F]

local notation "𝕄" => MT nD τ sig Unit (Elt F) ℕ UU ℕ

abbrev 𝒱₀ : Variants := Variants.none

variable (st : Dev nD → S4x64.Idx → Elt F .f32)

/-- A separating conjunction over the list, closed by `emp`. -/
def each (Φ : Fin 16 → sProp 𝕄) : List (Fin 16) → sProp 𝕄
  | [] => iprop(emp)
  | d :: l => iprop(Φ d ∗ each Φ l)

theorem each_cons (Φ : Fin 16 → sProp 𝕄) (d : Fin 16) (l : List (Fin 16)) : each Φ (d :: l) = iprop(Φ d ∗ each Φ l) := rfl

/-- One more at the end. -/
theorem each_snoc (Φ : Fin 16 → sProp 𝕄) (d : Fin 16) : ∀ l : List (Fin 16), iprop(each Φ l ∗ Φ d) ⊢ each Φ (l ++ [d])
  | [] => by
    show iprop(emp ∗ Φ d) ⊢ iprop(Φ d ∗ emp)
    iintro ⟨-, H⟩
    isplitl [H]; · iexact H
    iempintro
  | a :: l => by
    show iprop((Φ a ∗ each Φ l) ∗ Φ d) ⊢ iprop(Φ a ∗ each Φ (l ++ [d]))
    iintro ⟨⟨Ha, Hl⟩, Hd⟩
    isplitl [Ha]; · iexact Ha
    iapply (each_snoc Φ d l)
    isplitl [Hl] <;> iassumption

/-- A list of distinct slots is the big conjunction over its set. -/
theorem each_eq (Φ : Fin 16 → sProp 𝕄) : ∀ l : List (Fin 16), l.Nodup → each Φ l = bigSep l.toFinset Φ
  | [], _ => by
    show iprop(emp) = _
    rw [List.toFinset_nil, bigSep_empty]
    rfl
  | d :: l, h => by
    rw [List.toFinset_cons, bigSep_insert (by rw [List.mem_toFinset]; exact (List.nodup_cons.mp h).1), each_cons,
      each_eq Φ l (List.nodup_cons.mp h).2]
    rfl

theorem slots_nodup : slots.Nodup := by decide
theorem slots_toFinset : slots.toFinset = Finset.univ.erase (0 : Fin 16) := by decide
theorem each_slots (Φ : Fin 16 → sProp 𝕄) : each Φ slots = bigSep (Finset.univ.erase (0 : Fin 16)) Φ := by
  rw [each_eq Φ slots slots_nodup, slots_toFinset]

/-! ## Kits -/

/-- What signal `d` consumes. -/
def kitB (c : Dev nD) (d : Fin 16) : sProp 𝕄 :=
  iprop((∃ κ : ℕ, cellInv ER (Rd st) κ (barCell (c + d))) ∗ reached ER (barCell (c + d)) 0 ∗ reached ER (recvCell c (-d)) 0
    ∗ dutyTok ER (barCell (c + d)) 0 (-d) ∗ ∃ f, slotPts c (-d) fullShare f)
/-- What transfer `d` consumes beyond what the barrier brought: the two cells and their duties. -/
def kitS (c : Dev nD) (d : Fin 16) : sProp 𝕄 :=
  iprop((∃ κ : ℕ, cellInv ER (Rd st) κ (sendCell c d)) ∗ (∃ κ : ℕ, cellInv ER (Rd st) κ (recvCell (c + d) d))
    ∗ reached ER (sendCell c d) 0 ∗ dutyTok ER (sendCell c d) 0 0 ∗ dutyTok ER (recvCell (c + d) d) 0 0)
/-- What a wait on the device's receive cell `d`, -/
def kitV (c : Dev nD) (d : Fin 16) : sProp 𝕄 :=
  iprop((∃ κ : ℕ, cellInv ER (Rd st) κ (recvCell c d)) ∗ atPos ER (recvCell c d) 0 ∅ 0 ∗ cred (tallyAt (recvCell c d) () N))
/-- on its send cell `d` consumes. -/
def kitW (c : Dev nD) (d : Fin 16) : sProp 𝕄 :=
  iprop((∃ κ : ℕ, cellInv ER (Rd st) κ (sendCell c d)) ∗ atPos ER (sendCell c d) 0 ∅ 0)
/-- What the barrier's wait consumes. -/
def kitBar (c : Dev nD) : sProp 𝕄 :=
  iprop((∃ κ : ℕ, cellInv ER (Rd st) κ (barCell c)) ∗ atPos ER (barCell c) 0 ∅ 0 ∗ cred (tallyAt (barCell c) () 15))

/-- The core's debt, whatever it has waited for. -/
def debt (c : Dev nD) (O : CellTallies nD τ sig Unit) : sProp 𝕄 := iprop(∃ W, owes (c : Thread nD τ) O W)

section

theorem neg_ne (d : Fin 16) (h : d ≠ 0) : -d ≠ 0 := by revert d; decide
theorem dev_neg (c d : Fin 16) : c + d + -d = c := by revert c d; decide

/-- Before signal `d :: l`. -/
def atSignal (c : Dev nD) (l : List (Fin 16)) : sProp 𝕄 := iprop(debt c (owedB c l) ∗ each (kitB st c) l)

/-- After the last signal only the arrivals are owed. -/
theorem signal_done (c : Dev nD) : atSignal st c [] ⊢ (∃ W, owes (c : Thread nD τ) (owedR c slots) W : sProp 𝕄) := by
  unfold atSignal debt
  iintro ⟨H, -⟩
  iexact H

/-- A barrier signal. -/
theorem step_signal (c n : Dev nD) (d : Fin 16) (l : List (Fin 16)) (hn : n = c + d) (hd : d ≠ 0)
    {α : Type} {Q : α → sProp 𝕄} {k : PUnit → Prog (TpuEff nD τ sig (Elt F) Λ₀ .tc) α} :
    atSignal st c (d :: l) ⊢ iprop((atSignal st c l -∗ wp frame (wpE (defs₀ (F := F)) 𝒱₀ (c : Thread nD τ) none) Set.univ (k ⟨⟩) Q)
      -∗ wp frame (wpE (defs₀ (F := F)) 𝒱₀ (c : Thread nD τ) none) Set.univ (.op (.semSignal (n : Thread nD τ) barS 1) k) Q) := by
  subst hn
  unfold atSignal debt
  rw [each_cons]
  unfold kitB
  iintro ⟨⟨%W, HO⟩, ⟨⟨%κ, #HI⟩, #Hr, #HrV, Ht, %f, Hs⟩, Hl⟩ Hk
  iapply (Rounds.wp_signal 𝒱₀ ER (Rd st) (c : Thread nD τ) none (dst := ((c + d : Dev nD) : Thread nD τ)) (κ := κ) (r := 0)
      (d := -d) (by rw [duties_bar]; exact Finset.mem_erase.mpr ⟨neg_ne d hd, Finset.mem_univ _⟩) rfl () (owedB c l) rfl)
    $$ [HO Ht Hs]
  · isplitr; · iexact HI
    isplitl [HO]; · iexact HO
    isplitl [Ht]; · iexact Ht
    isplitl [Hs]
    · rw [payload_bar]; unfold barPay; rw [dev_neg]
      isplitl [Hs]; · iexists f; iexact Hs
      iexact HrV
    · iexact Hr
  iintro HO
  iapply Hk
  isplitl [HO]; · iexists W; iexact HO
  iexact Hl

/-- The barrier's wait: every peer's slot comes with it, the barrier cell is closed. -/
theorem step_barrier (c : Dev nD) {α : Type} {Q : α → sProp 𝕄} {k : PUnit → Prog (TpuEff nD τ sig (Elt F) Λ₀ .tc) α} :
    iprop(levAts L lv ∗ debt c (owedR c slots) ∗ kitBar st c)
      ⊢ iprop(((debt c (owedR c slots) ∗ each (barPay (F := F) c) slots ∗ semVal (barCell c) 0)
          -∗ wp frame (wpE (defs₀ (F := F)) 𝒱₀ (c : Thread nD τ) none) Set.univ (k ⟨⟩) Q)
        -∗ wp frame (wpE (defs₀ (F := F)) 𝒱₀ (c : Thread nD τ) none) Set.univ (.op (.semWait barS 15) k) Q) := by
  unfold debt kitBar
  iintro ⟨Hlev, ⟨%W, HO⟩, ⟨%κ, #HI⟩, Hat, Hc⟩ Hk
  iapply (Rounds.wp_wait_rest_token 𝒱₀ ER (Rd st) (c : Thread nD τ) none (κ := κ)
      (wpE_semWait_eq 𝒱₀ (c : Thread nD τ) none Set.univ) (Set.mem_univ _) () (O := owedR c slots) (W := W) (R := 0) (m := 0) (T := ∅)
      (by rw [expect_bar])) $$ [Hlev Hc HO Hat]
  · isplitr; · iexact HI
    isplitl [Hc]; · iexact Hc
    isplitl [HO]; · iexact HO
    isplitl [Hlev]; · iapply (mayWait_bar c slots); iexact Hlev
    iexact Hat
  iintro ⟨HO, Hat, -, Hpay⟩
  imod (Rounds.cell_close ER (Rd st) (Set.mem_univ κ) (fun h => h) (R := 0 + 1) (duties_later st (barCell c))) $$ [Hat] with Hz
  · isplitr; · iexact HI
    iexact Hat
  iapply Hk
  isplitl [HO]; · iexists _; iexact HO
  isplitl [Hpay]
  · rw [each_slots, duties_bar, Finset.sdiff_empty]
    iexact Hpay
  iexact Hz

/-- Before transfer `d :: l`, after the transfers `l'`: the debt, the kits, what the barrier brought, the shares of slot 0 to lend;
    and the credits of the transfers issued. -/
def atSend (c : Dev nD) (l' l : List (Fin 16)) : sProp 𝕄 :=
  iprop(debt c (owedR c l) ∗ each (kitS st c) l ∗ each (barPay (F := F) c) l ∗ each (sendPay st c) l
    ∗ each (fun d => cred (tallyAt (sendCell c d) () N)) l')

/-- The transfer to device `c + d`. -/
theorem step_send (c n : Dev nD) (d : Fin 16) (l' l l'' : List (Fin 16)) (hl : l'' = l' ++ [d]) (hn : n = c + d) (hd : d ≠ 0)
    {hsc : (slotM d : Memref sig (Dev.tc n : Thread nD τ).2.kind .vmem S4x64 .f32).view.ref.isScScratch = false}
    {hsrc : (slotM 0).view.WordExact} {hdst : (slotM d).view.WordExact}
    {hsem : DmaTarget.Typed .vmem (.dma (recvS d)) (.remote (Dev.tc n : Thread nD τ) (slotM d) (.dma (sendS d)) hsc)}
    {α : Type} {Q : α → sProp 𝕄} {k : PUnit → Prog (TpuEff nD τ sig (Elt F) Λ₀ .tc) α} :
    atSend st c l' (d :: l) ⊢ iprop((atSend st c l'' l -∗ wp frame (wpE (defs₀ (F := F)) 𝒱₀ (c : Thread nD τ) none) Set.univ (k ⟨⟩) Q)
      -∗ wp frame (wpE (defs₀ (F := F)) 𝒱₀ (c : Thread nD τ) none) Set.univ
          (.op (.enqueueDma (slotM 0) (.remote (Dev.tc n : Thread nD τ) (slotM d) (.dma (sendS d)) hsc) (.dma (recvS d)) hsrc hdst hsem) k) Q) := by
  subst hl
  subst hn
  unfold atSend debt
  rw [each_cons, each_cons, each_cons]
  unfold kitS barPay
  iintro ⟨⟨%W, HO⟩, ⟨⟨⟨%κ₁, #HI₁⟩, ⟨%κ₂, #HI₂⟩, #Hr, Ht₁, Ht₂⟩, Hl⟩, ⟨⟨⟨%fd, Hd⟩, #HrV⟩, Hb⟩, ⟨Hs, Hsl⟩, Hcr⟩ Hk
  unfold sendPay slotPts
  iapply (Rounds.wp_send_pointsTo 𝒱₀ ER (Rd st) (c : Thread nD τ) none (κ₁ := κ₁) (κ₂ := κ₂)
    (r₁ := 0) (r₂ := 0) (d₁ := 0) (d₂ := 0) (fd := fd)
    (by rw [duties_send st c d hd]; exact Finset.mem_singleton_self _) (by rw [duties_recv st _ d hd]; exact Finset.mem_singleton_self _)
    () () N rfl rfl rfl (owedR c l) rfl (W := W)
    (by rw [payload_send]; exact BI.Entails.refl _)
    (by rw [payload_recv]; exact Entails.of_eq (pointsTo_congr (landed st c d fd)))) $$ [HO Ht₁ Ht₂ Hd Hs]
  · isplitr; · iexact HI₁
    isplitr; · iexact HI₂
    isplitl [Hs]; · iexact Hs
    isplitl [Hd]; · iexact Hd
    isplitl [HO]; · iexact HO
    isplitl [Ht₁]; · iexact Ht₁
    isplitr; · iexact Hr
    isplitl [Ht₂]; · iexact Ht₂
    iexact HrV
  iintro ⟨Hc, HO⟩
  iapply Hk
  isplitl [HO]; · iexists W; iexact HO
  isplitl [Hl]; · iexact Hl
  isplitl [Hb]; · iexact Hb
  isplitl [Hsl]; · iexact Hsl
  iapply (each_snoc (F := F) (fun d => cred (tallyAt (sendCell c d) () N)) d l')
  isplitl [Hcr] <;> iassumption

/-- A wait on an own cell of one duty, the core owing nothing: the duty's payload, and the cell closed. -/
theorem step_wait (c : Dev nD) (q : DmaSem sig) (P : sProp 𝕄) (hexp : (Rd st).expect ((c : Thread nD τ), .dma q) 0 = N)
    (hrest : bigSep ((Rd (F := F) st).duties ((c : Thread nD τ), .dma q) 0 \ ∅) (fun s => (Rd (F := F) st).payload ((c : Thread nD τ), .dma q) 0 s) = P)
    {w : TpuEff nD τ sig (Elt F) Λ₀ .tc PUnit}
    (hw : ∀ K : PUnit → sProp 𝕄, wpE (defs₀ (F := F)) 𝒱₀ (c : Thread nD τ) none Set.univ w K
      = waitSpec (c : Thread nD τ) Set.univ (.dma q) N K)
    {α : Type} {Q : α → sProp 𝕄} {k : PUnit → Prog (TpuEff nD τ sig (Elt F) Λ₀ .tc) α} :
    iprop(debt c 0 ∗ (∃ κ : ℕ, cellInv ER (Rd st) κ ((c : Thread nD τ), .dma q)) ∗ atPos ER ((c : Thread nD τ), .dma q) 0 ∅ 0
        ∗ cred (tallyAt ((c : Thread nD τ), .dma q) () N))
      ⊢ iprop(((debt c 0 ∗ P ∗ semVal ((c : Thread nD τ), .dma q) 0)
          -∗ wp frame (wpE (defs₀ (F := F)) 𝒱₀ (c : Thread nD τ) none) Set.univ (k ⟨⟩) Q)
        -∗ wp frame (wpE (defs₀ (F := F)) 𝒱₀ (c : Thread nD τ) none) Set.univ (.op w k) Q) := by
  subst hrest
  unfold debt
  iintro ⟨⟨%W, HO⟩, ⟨%κ, #HI⟩, Hat, Hc⟩ Hk
  iapply (Rounds.wp_wait_rest_token 𝒱₀ ER (Rd st) (c : Thread nD τ) none (κ := κ)
      hw (Set.mem_univ _) () (O := 0) (W := W) (R := 0) (m := 0) (T := ∅)
      (by rw [Nat.zero_add, hexp])) $$ [Hc HO Hat]
  · isplitr; · iexact HI
    isplitl [Hc]; · iexact Hc
    isplitl [HO]; · iexact HO
    isplitr; · rw [MayWait_zero]; iempintro
    iexact Hat
  iintro ⟨HO, Hat, -, Hpay⟩
  imod (Rounds.cell_close ER (Rd st) (Set.mem_univ κ) (fun h => h) (R := 0 + 1) (duties_later st _)) $$ [Hat] with Hz
  · isplitr; · iexact HI
    iexact Hat
  iapply Hk
  isplitl [HO]; · iexists _; iexact HO
  isplitl [Hpay] <;> iassumption

/-- Before the receive wait `d :: l`: what the waits before it have brought is in `l'`. -/
def atRecv (c : Dev nD) (l' l : List (Fin 16)) : sProp 𝕄 :=
  iprop(debt c 0 ∗ each (kitV st c) l ∗ each (fun d => iprop(recvPay st c d ∗ semVal (recvCell c d) 0)) l')

/-- The wait on receive cell `d`. -/
theorem step_recv (c : Dev nD) (d : Fin 16) (l' l l'' : List (Fin 16)) (hl : l'' = l' ++ [d]) (hd : d ≠ 0)
    {hsrc : (slotM 0).view.WordExact} {hdst : (slotM d).view.WordExact}
    {α : Type} {Q : α → sProp 𝕄} {k : PUnit → Prog (TpuEff nD τ sig (Elt F) Λ₀ .tc) α} :
    atRecv st c l' (d :: l) ⊢ iprop((atRecv st c l'' l -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 (recvS d) (slotM 0) (slotM d) hsrc hdst) k) Q) := by
  subst hl
  unfold atRecv
  rw [each_cons]
  unfold kitV
  iintro ⟨HO, ⟨⟨HI, Hat, Hc⟩, Hl⟩, Hd⟩ Hk
  iapply (step_wait st c (recvS d) (recvPay st c d) (expect_recv st c d hd) (rest_recv st c d hd)
    (w := .waitDma2 (recvS d) (slotM 0) (slotM d) hsrc hdst) (fun K => rfl)) $$ [HO HI Hat Hc]
  · isplitl [HO]; · iexact HO
    isplitl [HI]; · iexact HI
    isplitl [Hat] <;> iassumption
  iintro ⟨HO, Hp, Hz⟩
  iapply Hk
  isplitl [HO]; · iexact HO
  isplitl [Hl]; · iexact Hl
  iapply (each_snoc (F := F) (fun d => iprop(recvPay st c d ∗ semVal (recvCell c d) 0)) d l')
  isplitl [Hd]; · iexact Hd
  isplitl [Hp] <;> iassumption

/-- Before the send wait `d :: l`. -/
def atDone (c : Dev nD) (l' l : List (Fin 16)) : sProp 𝕄 :=
  iprop(debt c 0 ∗ each (kitW st c) l ∗ each (fun d => cred (tallyAt (sendCell c d) () N)) l
    ∗ each (fun d => iprop(sendPay st c d ∗ semVal (sendCell c d) 0)) l')

/-- The wait on send cell `d`. -/
theorem step_done (c : Dev nD) (d : Fin 16) (l' l l'' : List (Fin 16)) (hl : l'' = l' ++ [d]) (hd : d ≠ 0)
    {hsrc : (slotM d).view.WordExact} {hdst : (slotM 0).view.WordExact}
    {α : Type} {Q : α → sProp 𝕄} {k : PUnit → Prog (TpuEff nD τ sig (Elt F) Λ₀ .tc) α} :
    atDone st c l' (d :: l) ⊢ iprop((atDone st c l'' l -∗ wp frame (wpE (defs₀ (F := F)) 𝒱₀ (c : Thread nD τ) none) Set.univ (k ⟨⟩) Q)
      -∗ wp frame (wpE (defs₀ (F := F)) 𝒱₀ (c : Thread nD τ) none) Set.univ
          (.op (.waitDma2 (sendS d) (slotM d) (slotM 0) hsrc hdst) k) Q) := by
  subst hl
  unfold atDone
  rw [each_cons, each_cons]
  unfold kitW
  iintro ⟨HO, ⟨⟨HI, Hat⟩, Hl⟩, ⟨Hc, Hcl⟩, Hd⟩ Hk
  iapply (step_wait st c (sendS d) (sendPay st c d) (expect_send st c d hd) (rest_send st c d hd)
    (w := .waitDma2 (sendS d) (slotM d) (slotM 0) hsrc hdst) (fun K => rfl)) $$ [HO HI Hat Hc]
  · isplitl [HO]; · iexact HO
    isplitl [HI]; · iexact HI
    isplitl [Hat] <;> iassumption
  iintro ⟨HO, Hp, Hz⟩
  iapply Hk
  isplitl [HO]; · iexact HO
  isplitl [Hl]; · iexact Hl
  isplitl [Hcl]; · iexact Hcl
  iapply (each_snoc (F := F) (fun d => iprop(sendPay st c d ∗ semVal (sendCell c d) 0)) d l')
  isplitl [Hd]; · iexact Hd
  isplitl [Hp] <;> iassumption

end

end Cert.BnSwish

end
-- ==== Proof.Slots.lean ====
/-
# The statistics buffer, slot by slot

The buffer is its sixteen slots (at any share); slot 0 is dealt into the fifteen shares the transfers lend, one more share
that serves the load of the whole buffer, and a rest; after the receive waits the right half of every slot makes the whole
buffer at the right half share, which the load reads while the transfers may still be under way; at the end all is joined.
-/
module

public import proofs.«01_k».proof.Proof.Steps

@[expose] public section

noncomputable section

namespace Cert.BnSwish

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTokN shareDrop)

variable {F : FTy → Type} [FloatOps F]

local notation "𝕄" => MT nD τ sig Unit (Elt F) ℕ UU ℕ

variable (st : Dev nD → S4x64.Idx → Elt F .f32)

/-- The whole statistics buffer of device `c`. -/
def commPts (c : Dev nD) (q : PosShare TreeShare) (f : Buf (Elt F) (cM.view.loc (c : Thread nD τ))) : sProp 𝕄 :=
  cM.view.loc (c : Thread nD τ) ↦[Finset.univ]{q} f

theorem slots_cover : (Finset.univ : Finset S16x4x64.Idx) = Finset.univ.biUnion fun d => (slotM d).view.set := by
  refine (Finset.ext fun i => ?_)
  simp only [Finset.mem_univ, Finset.mem_biUnion, true_and, true_iff]
  refine ⟨⟨(i 0).val, (i 0).isLt⟩, ?_⟩
  rw [slot_set]
  exact Finset.mem_filter.mpr ⟨Finset.mem_univ _, rfl⟩

theorem slots_disjoint (d d' : Fin 16) (h : d ≠ d') : Disjoint (slotM d).view.set (slotM d').view.set := by
  rw [slot_set, slot_set, Finset.disjoint_left]
  intro i hi hi'
  exact h (Fin.ext ((Finset.mem_filter.mp hi).2.symm.trans (Finset.mem_filter.mp hi').2))

/-- The buffer is slot 0 and the fifteen others. -/
theorem comm_eq (c : Dev nD) (q : PosShare TreeShare) (f) :
    commPts (F := F) c q f = iprop(slotPts c 0 q f ∗ each (fun d => slotPts c d q f) slots) := by
  have h : commPts (F := F) c q f = bigSep Finset.univ fun d => slotPts c d q f := by
    unfold commPts
    refine (congrArg (fun S => (cM.view.loc (c : Thread nD τ) ↦[S]{q} f : sProp 𝕄)) slots_cover).trans ?_
    exact pointsTo_biUnion (ℓ := cM.view.loc (c : Thread nD τ)) (q := q) (f := f) Finset.univ (fun d : Fin 16 => (slotM d).view.set)
      fun d _ d' _ h => slots_disjoint d d' h
  rw [h, each_slots, bigSep_univ_at _ (0 : Fin 16)]

theorem each_mono {Φ Ψ : Fin 16 → sProp 𝕄} (h : ∀ d, Φ d ⊢ Ψ d) : ∀ l : List (Fin 16), each Φ l ⊢ each Ψ l
  | [] => BI.Entails.refl _
  | d :: l => BIClass.sep_mono (h d) (each_mono h l)

theorem each_sep (Φ Ψ : Fin 16 → sProp 𝕄) : ∀ l : List (Fin 16), each (fun d => iprop(Φ d ∗ Ψ d)) l ⊢ iprop(each Φ l ∗ each Ψ l)
  | [] => by
    show iprop(emp) ⊢ iprop(emp ∗ emp)
    iintro -
    isplitr <;> iempintro
  | d :: l => by
    show iprop((Φ d ∗ Ψ d) ∗ each _ l) ⊢ iprop((Φ d ∗ each Φ l) ∗ (Ψ d ∗ each Ψ l))
    iintro ⟨⟨H1, H2⟩, H⟩
    ihave Hl := (each_sep Φ Ψ l) $$ H
    icases Hl with ⟨H3, H4⟩
    isplitl [H1 H3]
    · isplitl [H1] <;> iassumption
    · isplitl [H2] <;> iassumption

theorem each_unsep (Φ Ψ : Fin 16 → sProp 𝕄) : ∀ l : List (Fin 16), iprop(each Φ l ∗ each Ψ l) ⊢ each (fun d => iprop(Φ d ∗ Ψ d)) l
  | [] => by
    show iprop(emp ∗ emp) ⊢ iprop(emp)
    iintro -
    iempintro
  | d :: l => by
    show iprop((Φ d ∗ each Φ l) ∗ (Ψ d ∗ each Ψ l)) ⊢ iprop((Φ d ∗ Ψ d) ∗ each _ l)
    iintro ⟨⟨H1, H3⟩, H2, H4⟩
    isplitl [H1 H2]
    · isplitl [H1] <;> iassumption
    · iapply (each_unsep Φ Ψ l)
      isplitl [H3] <;> iassumption

/-- Slot 0 dealt. -/
theorem slot0_deal (c : Dev nD) :
    slotPts c 0 fullShare (commFin st c) ⊣⊢ iprop(slotPts c 0 (shareDrop fullShare 16) (commFin st c)
      ∗ slotPts c 0 fullShare.right (commFin st c) ∗ each (sendPay st c) slots) := by
  have h : bigSep Finset.univ (fun i : Fin 16 => slotPts c 0 (Transfers.shareTok fullShare 16 i) (commFin st c))
      = iprop(slotPts c 0 fullShare.right (commFin st c) ∗ each (sendPay st c) slots) := by
    rw [each_slots, bigSep_univ_at _ (0 : Fin 16)]
    rfl
  rw [← h]
  exact Transfers.pointsTo_toks fullShare 16

/-- A slot is its two halves. -/
theorem slot_halves (c : Dev nD) (d : Fin 16) (f) :
    slotPts (F := F) c d fullShare f ⊣⊢ iprop(slotPts c d fullShare.left f ∗ slotPts c d fullShare.right f) :=
  pointsTo_share (PosShare.mem_left_op_right _)

/-- After the receive waits: the whole buffer at the right half share, the left halves kept. -/
theorem comm_right (c : Dev nD) :
    iprop(slotPts c 0 fullShare.right (commFin st c) ∗ each (recvPay st c) slots)
      ⊢ iprop(commPts c fullShare.right (commFin st c) ∗ each (fun d => slotPts c d fullShare.left (commFin st c)) slots) := by
  rw [comm_eq]
  iintro ⟨H0, H⟩
  ihave H := (each_mono (fun d => (show recvPay st c d ⊢ _ from (slot_halves c d (commFin st c)).1)) slots) $$ H
  ihave H := (each_sep _ _ slots) $$ H
  icases H with ⟨HL, HR⟩
  isplitl [H0 HR]
  · isplitl [H0] <;> iassumption
  iexact HL

/-- At the end: the whole buffer again. -/
theorem comm_join (c : Dev nD) :
    iprop(commPts c fullShare.right (commFin st c) ∗ each (fun d => slotPts c d fullShare.left (commFin st c)) slots
        ∗ slotPts c 0 (shareDrop fullShare 16) (commFin st c) ∗ each (sendPay st c) slots)
      ⊢ commPts c fullShare (commFin st c) := by
  rw [comm_eq, comm_eq]
  iintro ⟨⟨H0, HR⟩, HL, HD, HS⟩
  isplitl [H0 HD HS]
  · iapply (slot0_deal st c).2
    isplitl [HD]; · iexact HD
    isplitl [H0] <;> iassumption
  · iapply (each_mono (fun d => (slot_halves c d (commFin st c)).2) slots)
    iapply (each_unsep (F := F) _ _ slots)
    isplitl [HL] <;> iassumption

end Cert.BnSwish

end
-- ==== Proof.Values.lean ====
/-
# The values a device computes

As functions of the arrays, for any interpretation of the float types: the four chunks of a device's block of `x`, the
statistics (sums and sums of squares) a device sends round, and the block of the result the device writes. The second half
says where the body's stores and copies put them.
-/
module

public import proofs.«01_k».proof.Proof.Slots
public import Idealize.ShloMosaic.Lib.WritesUnit
public import Idealize.ShloMosaic.Lib.Pipeline.ReadBack

@[expose] public section

noncomputable section

namespace Cert.BnSwish

open Cert.KernelIdeal Cert.KernelIdeal.Gen

open Idealize.ShloMosaic
open Idealize.ShloMosaic.TcCoe
open Idealize.SL.BI.BIBase
open Idealize.ShloMosaic.ValueIdx

variable {F : FTy → Type} [FloatOps F]

/-! ## The values -/

/-- Chunk `k` of a device's block of `x`: 4096 rows. -/
def chunk (k : Fin 4) (xv : S2x16384x64.Idx → Elt F .f32) : Vec F S2x4096x64 .f32 :=
  fun i => xv (ix3 (i 0) ⟨4096 * k.val + (i 1).val, by have h : (i 1).val < 4096 := (i 1).isLt; have := k.isLt; omega⟩ (i 2))

/-- The sums over the rows of the four chunks, per batch entry and channel. -/
def sumOf (x0 x1 x2 x3 : Vec F S2x4096x64 .f32) : FVec F S1x2x64 .f32 :=
  k0_pay15 k0_pay1 (k0_pay11 k0_pay1 (k0_pay4 k0_pay1 k0_pay2 x0) (k0_pay9 x1) x2)
    (k0_pay13 k0_pay1 (k0_pay6 k0_pay1 (Scalar.ofBits .f32 0x00000000#32) x0) x1 x2) x3

/-- The sums of squares over the rows of the four chunks. -/
def sqOf (x0 x1 x2 x3 : Vec F S2x4096x64 .f32) : FVec F S1x2x64 .f32 :=
  k0_pay16 k0_pay1 (k0_pay12 k0_pay1 (k0_pay5 k0_pay1 x0) (k0_pay8 x1) x2)
    (k0_pay14 k0_pay1 (k0_pay7 k0_pay1 x0) (k0_pay8 x1) x2) x3

/-- What a device with block `xv` of `x` sends: rows 0, 1 the sums of batch entries 0, 1; rows 2, 3 the sums of squares. -/
def stOf (xv : S2x16384x64.Idx → Elt F .f32) : S4x64.Idx → Elt F .f32 := fun j =>
  if h : (j 0).val < 2 then sumOf (chunk 0 xv) (chunk 1 xv) (chunk 2 xv) (chunk 3 xv) (ix3 0 ⟨(j 0).val, h⟩ (j 1))
  else sqOf (chunk 0 xv) (chunk 1 xv) (chunk 2 xv) (chunk 3 xv)
    (ix3 0 ⟨(j 0).val - 2, by have h : (j 0).val < 4 := (j 0).isLt; omega⟩ (j 1))

/-- One chunk of the result, batch entry 0, from the gathered statistics `cm`, the projection `w` and the chunk of `x`. -/
def out0 (cm : Vec F S16x4x64 .f32) (w : Vec F S64x128 .f32) (xc : Vec F S2x4096x64 .f32) : FVec F S1x1x4096x128 .bf16 :=
  k0_pay25 (k0_pay21 w) (k0_pay22 cm xc) (k0_pay23 cm)

/-- The same for batch entry 1. -/
def out1 (cm : Vec F S16x4x64 .f32) (w : Vec F S64x128 .f32) (xc : Vec F S2x4096x64 .f32) : FVec F S1x1x4096x128 .bf16 :=
  k0_pay26 (k0_pay21 w) (k0_pay22 cm xc) (k0_pay23 cm)

/-- One chunk of the result. -/
def outChunk (cm : Vec F S16x4x64 .f32) (w : Vec F S64x128 .f32) (xc : Vec F S2x4096x64 .f32) : Vec F S2x4096x128 .bf16 :=
  fun i => if (i 0).val = 0 then out0 cm w xc (ix4 0 0 (i 1) (i 2)) else out1 cm w xc (ix4 0 0 (i 1) (i 2))

/-- The block of the result a device writes. -/
def outOf (cm : Vec F S16x4x64 .f32) (w : Vec F S64x128 .f32) (xv : S2x16384x64.Idx → Elt F .f32) : S2x16384x128.Idx → Elt F .bf16 :=
  fun i => outChunk cm w (chunk ⟨(i 1).val / 4096, by have h : (i 1).val < 16384 := (i 1).isLt; omega⟩ xv)
    (ix3 (i 0) ⟨(i 1).val % 4096, Nat.mod_lt _ (by decide)⟩ (i 2))

/-! ## The body's copies and stores -/

/-- The copy of chunk `k` into the scratch reads `chunk k`. -/
theorem chunk_read (k : Fin 4) {off : Fin 3 → ℕ} (h0 : off 0 = 0) (h1 : off 1 = 4096 * k.val) (h2 : off 2 = 0)
    (inb : ∀ a, off a + S2x4096x64.size a ≤ S2x16384x64.size a) (h) (xv : S2x16384x64.Idx → Elt F .f32) :
    (View.read (Elt F) ((Memref.whole main_arg0 : Memref sig .tc _ _ _).slice (Rect.unit (s := S2x16384x64) off S2x4096x64.size inb) h).view xv) = chunk k xv := by
  funext i
  show xv ((Rect.unit (s := S2x16384x64) off S2x4096x64.size inb).emb i) = _
  unfold chunk
  congr 1
  funext a
  apply Fin.ext
  fin_cases a
  · show off 0 + 1 * (i 0).val = (i 0).val
    omega
  · show off 1 + 1 * (i 1).val = 4096 * k.val + (i 1).val
    omega
  · show off 2 + 1 * (i 2).val = (i 2).val
    omega

section Loads

variable (w0 w1 w2 w3 : S2x4096x64.Idx → Elt F .f32)

/-- The scratch after the four copies of the chunks, newest first. -/
abbrev copied : List (View.Piece (Elt F) S2x16384x64 .f32) :=
  [⟨Rect.unit (s := S2x16384x64) ![0, 12288, 0] S2x4096x64.size inb_S2x16384x64_S2x4096x64_0_12288_0, w3⟩, ⟨Rect.unit (s := S2x16384x64) ![0, 8192, 0] S2x4096x64.size inb_S2x16384x64_S2x4096x64_0_8192_0, w2⟩,
   ⟨Rect.unit (s := S2x16384x64) ![0, 4096, 0] S2x4096x64.size inb_S2x16384x64_S2x4096x64_0_4096_0, w1⟩, ⟨Rect.unit (s := S2x16384x64) ![0, 0, 0] S2x4096x64.size inb_S2x16384x64_S2x4096x64_0_0_0, w0⟩]

/-- The scratch as a view. -/
abbrev bV : View sig .tc .vmem S2x16384x64 .f32 := (Memref.whole cc0_scratch0 : Memref sig .tc .vmem S2x16384x64 .f32).view

/-- A load of a chunk of the scratch reads what was copied there. -/
theorem load3 : bV.readCov (copied w0 w1 w2 w3) (Rect.unit (s := S2x16384x64) ![0, 12288, 0] S2x4096x64.size inb_S2x16384x64_S2x4096x64_0_12288_0).toLoadRect = w3 :=
  View.readCov_cons_toLoadRect _ _ _ _
theorem load2 : bV.readCov (copied w0 w1 w2 w3) (Rect.unit (s := S2x16384x64) ![0, 8192, 0] S2x4096x64.size inb_S2x16384x64_S2x4096x64_0_8192_0).toLoadRect = w2 :=
  (View.readCov_skip _ _ _ _ _ (by decide)).trans (View.readCov_cons_toLoadRect _ _ _ _)
theorem load1 : bV.readCov (copied w0 w1 w2 w3) (Rect.unit (s := S2x16384x64) ![0, 4096, 0] S2x4096x64.size inb_S2x16384x64_S2x4096x64_0_4096_0).toLoadRect = w1 :=
  (View.readCov_skip _ _ _ _ _ (by decide)).trans ((View.readCov_skip _ _ _ _ _ (by decide)).trans (View.readCov_cons_toLoadRect _ _ _ _))
theorem load0 : bV.readCov (copied w0 w1 w2 w3) (Rect.unit (s := S2x16384x64) ![0, 0, 0] S2x4096x64.size inb_S2x16384x64_S2x4096x64_0_0_0).toLoadRect = w0 :=
  (View.readCov_skip _ _ _ _ _ (by decide)).trans ((View.readCov_skip _ _ _ _ _ (by decide)).trans
    ((View.readCov_skip _ _ _ _ _ (by decide)).trans (View.readCov_cons_toLoadRect _ _ _ _)))

end Loads

/-- The load of all slots reads the whole statistics buffer. -/
theorem load_comm (inb : ∀ a, (![0, 0, 0] : Fin 3 → ℕ) a + S16x4x64.size a ≤ S16x4x64.size a) (f : S16x4x64.Idx → Elt F .f32) :
    View.readAt (Elt F) cM.view (Rect.unit (s := S16x4x64) ![0, 0, 0] S16x4x64.size inb).toLoadRect f = f :=
  Memref.readAt_unit_zero (Elt F) cc0_scratch2 (funext fun a => by fin_cases a <;> rfl) _ f

/-- The load of the projection reads it whole. -/
theorem load_w (inb : ∀ a, (![0, 0] : Fin 2 → ℕ) a + S64x128.size a ≤ S64x128.size a) (f : S64x128.Idx → Elt F .f32) :
    View.readAt (Elt F) (Memref.whole cc0_stg0_0 : Memref sig .tc .vmem S64x128 .f32).view (Rect.unit (s := S64x128) ![0, 0] S64x128.size inb).toLoadRect f = f :=
  Memref.readAt_unit_zero (Elt F) cc0_stg0_0 (funext fun a => by fin_cases a <;> rfl) _ f

theorem dev_sub_zero (c : Fin 16) : c - 0 = c := by revert c; decide

/-- The statistics slot after the two stores holds `stOf`. -/
theorem stats_stored (st : Dev nD → S4x64.Idx → Elt F .f32) (c : Dev nD) (f0 : Buf (Elt F) ((c : Thread nD τ).loc cc0_scratch2))
    (inb0 : ∀ a, (![0, 0, 0] : Fin 3 → ℕ) a + S1x2x64.size a ≤ S16x4x64.size a)
    (inb2 : ∀ a, (![0, 2, 0] : Fin 3 → ℕ) a + S1x2x64.size a ≤ S16x4x64.size a)
    (p q : S1x2x64.Idx → Elt F .f32)
    (hst : st c = fun j => if h : (j 0).val < 2 then p (ix3 0 ⟨(j 0).val, h⟩ (j 1))
      else q (ix3 0 ⟨(j 0).val - 2, by have h : (j 0).val < 4 := (j 0).isLt; omega⟩ (j 1)))
    (i : S16x4x64.Idx) (hi : (i 0).val = 0) :
    cM.view.writes (Elt F) f0 [⟨Rect.unit (s := S16x4x64) ![0, 2, 0] S1x2x64.size inb2, q⟩, ⟨Rect.unit (s := S16x4x64) ![0, 0, 0] S1x2x64.size inb0, p⟩] i
      = commFin st c i := by
  have hc : commFin st c i = st c (ix2 (i 1) (i 2)) := by
    unfold commFin
    rw [show (⟨(i 0).val, (i 0).isLt⟩ : Fin 16) = 0 from Fin.ext hi]
    exact congrArg (fun d : Fin 16 => st d (ix2 (i 1) (i 2))) (dev_sub_zero c)
  have e : st c (ix2 (i 1) (i 2)) = if h : (i 1).val < 2 then p (ix3 0 ⟨(i 1).val, h⟩ (i 2))
      else q (ix3 0 ⟨(i 1).val - 2, by have h : (i 1).val < 4 := (i 1).isLt; omega⟩ (i 2)) := congrFun hst _
  refine Eq.trans ?_ (hc.trans e).symm
  have hr : ∀ g : S16x4x64.Idx → Elt F .f32, g i = View.read (Elt F) cM.view g i := fun _ => rfl
  refine (hr _).trans ?_
  by_cases h : (i 1).val < 2
  · let x : S1x2x64.Idx := ix3 0 ⟨(i 1).val, h⟩ (i 2)
    refine Eq.trans ?_ (dif_pos h).symm
    refine (View.read_writes_cons_unit_of_not_mem (s := S16x4x64) cM.view f0 (off := ![0, 2, 0]) inb2 q _ i rfl (1 : Fin 3) (.inl h)).trans ?_
    refine (View.read_writes_cons_unit_of_mem (s := S16x4x64) cM.view f0 (off := ![0, 0, 0]) inb0 p _ i x rfl ?_)
    intro a
    fin_cases a
    · exact hi
    · exact (Nat.zero_add _).symm
    · exact (Nat.zero_add _).symm
  · let x : S1x2x64.Idx := ix3 0 ⟨(i 1).val - 2, by have h : (i 1).val < 4 := (i 1).isLt; omega⟩ (i 2)
    refine Eq.trans ?_ (dif_neg h).symm
    refine (View.read_writes_cons_unit_of_mem (s := S16x4x64) cM.view f0 (off := ![0, 2, 0]) inb2 q _ i x rfl ?_)
    intro a
    fin_cases a
    · exact hi
    · show (i 1).val = 2 + ((i 1).val - 2)
      omega
    · exact (Nat.zero_add _).symm

/-- A slot of the staging buffer, after the stores of both batch entries, read as the copy out reads it. -/
theorem staged_read (s : ℕ) (f : S2x2x4096x128.Idx → Elt F .bf16)
    (inb : ∀ a, (![s, 0, 0, 0] : Fin 4 → ℕ) a + S1x2x4096x128.size a ≤ S2x2x4096x128.size a)
    (inb0 : ∀ a, (![s, 0, 0, 0] : Fin 4 → ℕ) a + S1x1x4096x128.size a ≤ S2x2x4096x128.size a)
    (inb1 : ∀ a, (![s, 1, 0, 0] : Fin 4 → ℕ) a + S1x1x4096x128.size a ≤ S2x2x4096x128.size a)
    (h) (hq) (p q : S1x1x4096x128.Idx → Elt F .bf16) (L) (b : Fin 2) (r : Fin 4096) (j : Fin 128) :
    View.read (Elt F) (((Memref.whole cc0_scratch1 : Memref sig .tc _ _ _).slice (Rect.unit (s := S2x2x4096x128) ![s, 0, 0, 0] S1x2x4096x128.size inb) h).squeeze S2x4096x128 hq).view
      ((Memref.whole cc0_scratch1 : Memref sig .tc _ _ _).view.writes (Elt F) f
        (⟨Rect.unit (s := S2x2x4096x128) ![s, 1, 0, 0] S1x1x4096x128.size inb1, q⟩ :: ⟨Rect.unit (s := S2x2x4096x128) ![s, 0, 0, 0] S1x1x4096x128.size inb0, p⟩ :: L)) (ix3 b r j)
      = if b.val = 0 then p (ix4 0 0 r j) else q (ix4 0 0 r j) := by
  have hs : s < 2 := by have := inb 0; change s + 1 ≤ 2 at this; omega
  let y : S2x2x4096x128.Idx := ix4 ⟨s, hs⟩ b r j
  let x : S1x1x4096x128.Idx := ix4 0 0 r j
  have he : ∀ g : S2x2x4096x128.Idx → Elt F .bf16,
      View.read (Elt F) (((Memref.whole cc0_scratch1 : Memref sig .tc _ _ _).slice (Rect.unit (s := S2x2x4096x128) ![s, 0, 0, 0] S1x2x4096x128.size inb) h).squeeze S2x4096x128 hq).view g (ix3 b r j)
        = View.read (Elt F) (Memref.whole cc0_scratch1 : Memref sig .tc _ _ _).view g y := by
    intro g
    show g ((Rect.unit (s := S2x2x4096x128) ![s, 0, 0, 0] S1x2x4096x128.size inb).emb (Shape.reshapeEquiv _ (ix3 b r j))) = g y
    congr 1
    refine (congrArg _ (reshapeEquiv_ix3_1abc _ b r j)).trans ?_
    funext a
    apply Fin.ext
    fin_cases a
    · show s + 1 * 0 = s
      omega
    · show 0 + 1 * b.val = b.val
      omega
    · show 0 + 1 * r.val = r.val
      omega
    · show 0 + 1 * j.val = j.val
      omega
  refine (he _).trans ?_
  have hb : b.val < 2 := b.isLt
  by_cases h0 : b.val = 0
  · refine (View.read_writes_cons_unit_of_not_mem (s := S2x2x4096x128) (Memref.whole cc0_scratch1 : Memref sig .tc .vmem S2x2x4096x128 .bf16).view f (off := ![s, 1, 0, 0]) inb1 q _ y rfl (1 : Fin 4)
      (.inl (by show b.val < 1; omega))).trans ?_
    refine (View.read_writes_cons_unit_of_mem (s := S2x2x4096x128) (Memref.whole cc0_scratch1 : Memref sig .tc .vmem S2x2x4096x128 .bf16).view f (off := ![s, 0, 0, 0]) inb0 p _ y x rfl ?_).trans (if_pos h0).symm
    intro a
    fin_cases a
    · rfl
    · show b.val = 0 + 0
      omega
    · exact (Nat.zero_add _).symm
    · exact (Nat.zero_add _).symm
  · refine (View.read_writes_cons_unit_of_mem (s := S2x2x4096x128) (Memref.whole cc0_scratch1 : Memref sig .tc .vmem S2x2x4096x128 .bf16).view f (off := ![s, 1, 0, 0]) inb1 q _ y x rfl ?_).trans (if_neg h0).symm
    intro a
    fin_cases a
    · rfl
    · show b.val = 1 + 0
      omega
    · exact (Nat.zero_add _).symm
    · exact (Nat.zero_add _).symm

/-- So a staged chunk is copied out as `outChunk`. -/
theorem staged_chunk (s : ℕ) (f : S2x2x4096x128.Idx → Elt F .bf16)
    (inb : ∀ a, (![s, 0, 0, 0] : Fin 4 → ℕ) a + S1x2x4096x128.size a ≤ S2x2x4096x128.size a)
    (inb0 : ∀ a, (![s, 0, 0, 0] : Fin 4 → ℕ) a + S1x1x4096x128.size a ≤ S2x2x4096x128.size a)
    (inb1 : ∀ a, (![s, 1, 0, 0] : Fin 4 → ℕ) a + S1x1x4096x128.size a ≤ S2x2x4096x128.size a)
    (h) (hq) (p q : S1x1x4096x128.Idx → Elt F .bf16) (L) (cm : Vec F S16x4x64 .f32) (w : Vec F S64x128 .f32) (xc : Vec F S2x4096x64 .f32)
    (h0 : p = out0 cm w xc) (h1 : q = out1 cm w xc) :
    View.read (Elt F) (((Memref.whole cc0_scratch1 : Memref sig .tc _ _ _).slice (Rect.unit (s := S2x2x4096x128) ![s, 0, 0, 0] S1x2x4096x128.size inb) h).squeeze S2x4096x128 hq).view
      ((Memref.whole cc0_scratch1 : Memref sig .tc _ _ _).view.writes (Elt F) f
        (⟨Rect.unit (s := S2x2x4096x128) ![s, 1, 0, 0] S1x1x4096x128.size inb1, q⟩ :: ⟨Rect.unit (s := S2x2x4096x128) ![s, 0, 0, 0] S1x1x4096x128.size inb0, p⟩ :: L))
      = outChunk cm w xc := by
  subst h0 h1
  funext (i : S2x4096x128.Idx)
  refine (congrArg _ (eq_ix3 i)).trans ?_
  exact staged_read s f inb inb0 inb1 h hq _ _ L (i 0) (i 1) (i 2)

/-- The other chunks' payloads are the same function of their chunk. -/
theorem pay29_eq (cm : Vec F S16x4x64 .f32) (w : Vec F S64x128 .f32) (xc : Vec F S2x4096x64 .f32) :
    k0_pay29 (k0_pay20 cm) (k0_pay21 w) (k0_pay27 (k0_pay19 cm) xc) = out0 cm w xc := rfl
theorem pay30_eq (cm : Vec F S16x4x64 .f32) (w : Vec F S64x128 .f32) (xc : Vec F S2x4096x64 .f32) :
    k0_pay30 (k0_pay20 cm) (k0_pay21 w) (k0_pay27 (k0_pay19 cm) xc) = out1 cm w xc := rfl
theorem pay32_eq (cm : Vec F S16x4x64 .f32) (w : Vec F S64x128 .f32) (xc : Vec F S2x4096x64 .f32) :
    k0_pay32 (k0_pay19 cm) (k0_pay20 cm) (k0_pay21 w) xc = out0 cm w xc := rfl
theorem pay33_eq (cm : Vec F S16x4x64 .f32) (w : Vec F S64x128 .f32) (xc : Vec F S2x4096x64 .f32) :
    k0_pay33 (k0_pay19 cm) (k0_pay20 cm) (k0_pay21 w) xc = out1 cm w xc := rfl
theorem pay35_eq (cm : Vec F S16x4x64 .f32) (w : Vec F S64x128 .f32) (xc : Vec F S2x4096x64 .f32) :
    k0_pay35 (k0_pay19 cm) (k0_pay20 cm) (k0_pay21 w) xc = out0 cm w xc := rfl
theorem pay36_eq (cm : Vec F S16x4x64 .f32) (w : Vec F S64x128 .f32) (xc : Vec F S2x4096x64 .f32) :
    k0_pay36 (k0_pay21 w) (k0_pay34 (k0_pay19 cm) (k0_pay20 cm) xc) = out1 cm w xc := rfl

/-- The place of chunk `k`'s element in the result. -/
theorem outOf_emb (k : Fin 4) {off : Fin 3 → ℕ} (h0 : off 0 = 0) (h1 : off 1 = 4096 * k.val) (h2 : off 2 = 0)
    (inb : ∀ a, off a + S2x4096x128.size a ≤ S2x16384x128.size a) (cm : Vec F S16x4x64 .f32) (w : Vec F S64x128 .f32) (xv : S2x16384x64.Idx → Elt F .f32)
    (i : S2x4096x128.Idx) :
    outChunk cm w (chunk k xv) i = outOf cm w xv ((Rect.unit (s := S2x16384x128) off S2x4096x128.size inb).emb i) := by
  have hi : (i 1).val < 4096 := (i 1).isLt
  have e : (Rect.unit (s := S2x16384x128) off S2x4096x128.size inb).emb i
      = ix3 (i 0) ⟨4096 * k.val + (i 1).val, by have := k.isLt; omega⟩ (i 2) := by
    funext a
    apply Fin.ext
    fin_cases a
    · show off 0 + 1 * (i 0).val = (i 0).val
      omega
    · show off 1 + 1 * (i 1).val = 4096 * k.val + (i 1).val
      omega
    · show off 2 + 1 * (i 2).val = (i 2).val
      omega
  rw [e]
  unfold outOf
  have e1 : (⟨(4096 * k.val + (i 1).val) / 4096, by have := k.isLt; omega⟩ : Fin 4) = k := Fin.ext (by show (4096 * k.val + (i 1).val) / 4096 = k.val; omega)
  have e2 : (⟨(4096 * k.val + (i 1).val) % 4096, Nat.mod_lt _ (by decide)⟩ : Fin 4096) = i 1 := Fin.ext (by show (4096 * k.val + (i 1).val) % 4096 = (i 1).val; omega)
  show _ = outChunk cm w (chunk (⟨(4096 * k.val + (i 1).val) / 4096, _⟩ : Fin 4) xv) (ix3 (i 0) (⟨(4096 * k.val + (i 1).val) % 4096, _⟩ : Fin 4096) (i 2))
  rw [e1, e2]
  exact congrArg _ (eq_ix3 i)

/-- A row of the result lies in the copy of its chunk. -/
theorem row_mem (i : S2x16384x128.Idx) (o : ℕ) (inb : ∀ a, (![0, o, 0] : Fin 3 → ℕ) a + S2x4096x128.size a ≤ S2x16384x128.size a)
    (h1 : o ≤ (i 1).val) (h2 : (i 1).val < o + 4096) : i ∈ (Rect.unit (s := S2x16384x128) ![0, o, 0] S2x4096x128.size inb).set := by
  have hi0 : (i 0).val < 2 := (i 0).isLt
  have hi2 : (i 2).val < 128 := (i 2).isLt
  rw [Rect.mem_set_unit]
  intro a
  fin_cases a
  · exact ⟨Nat.zero_le _, by show (i 0).val < 0 + 2; omega⟩
  · exact ⟨h1, h2⟩
  · exact ⟨Nat.zero_le _, by show (i 2).val < 0 + 128; omega⟩

/-- Copies that cover the result, each writing `G`'s values, leave `G`. -/
theorem result_writes (ov G : S2x16384x128.Idx → Elt F .bf16) (L : List (View.Piece (Elt F) S2x16384x128 .bf16))
    (hp : View.PiecesOf G L) (hc : ∀ i : S2x16384x128.Idx, ∃ p ∈ L, i ∈ p.1.set) :
    (Memref.whole main_v1 : Memref sig .tc _ _ _).view.writes (Elt F) ov L = G := by
  funext (i : S2x16384x128.Idx)
  have hr : ∀ g : S2x16384x128.Idx → Elt F .bf16, g i = View.read (Elt F) (Memref.whole main_v1 : Memref sig .tc .hbm S2x16384x128 .bf16).view g i := fun _ => rfl
  refine (hr _).trans ?_
  refine (View.read_writes_apply_eq_canon (Memref.whole main_v1 : Memref sig .tc .hbm S2x16384x128 .bf16).view ov i L (hc i)).trans ?_
  have h := View.canon_append_of_piecesOf G [] L hp i (hc i)
  rwa [List.append_nil] at h

/-- The result after the four copies out: `G`, if each copy wrote `G`'s values. -/
theorem result_stored (ov G : S2x16384x128.Idx → Elt F .bf16) (w0 w1 w2 w3 : S2x4096x128.Idx → Elt F .bf16)
    (inb0 : ∀ a, (![0, 0, 0] : Fin 3 → ℕ) a + S2x4096x128.size a ≤ S2x16384x128.size a)
    (inb1 : ∀ a, (![0, 4096, 0] : Fin 3 → ℕ) a + S2x4096x128.size a ≤ S2x16384x128.size a)
    (inb2 : ∀ a, (![0, 8192, 0] : Fin 3 → ℕ) a + S2x4096x128.size a ≤ S2x16384x128.size a)
    (inb3 : ∀ a, (![0, 12288, 0] : Fin 3 → ℕ) a + S2x4096x128.size a ≤ S2x16384x128.size a)
    (h0 : ∀ x, w0 x = G ((Rect.unit (s := S2x16384x128) ![0, 0, 0] S2x4096x128.size inb0).emb x))
    (h1 : ∀ x, w1 x = G ((Rect.unit (s := S2x16384x128) ![0, 4096, 0] S2x4096x128.size inb1).emb x))
    (h2 : ∀ x, w2 x = G ((Rect.unit (s := S2x16384x128) ![0, 8192, 0] S2x4096x128.size inb2).emb x))
    (h3 : ∀ x, w3 x = G ((Rect.unit (s := S2x16384x128) ![0, 12288, 0] S2x4096x128.size inb3).emb x)) :
    (Memref.whole main_v1 : Memref sig .tc _ _ _).view.writes (Elt F) ov
      [⟨Rect.unit (s := S2x16384x128) ![0, 12288, 0] S2x4096x128.size inb3, w3⟩,
       ⟨Rect.unit (s := S2x16384x128) ![0, 8192, 0] S2x4096x128.size inb2, w2⟩,
       ⟨Rect.unit (s := S2x16384x128) ![0, 4096, 0] S2x4096x128.size inb1, w1⟩,
       ⟨Rect.unit (s := S2x16384x128) ![0, 0, 0] S2x4096x128.size inb0, w0⟩] = G := by
  refine result_writes ov G _ ?_ fun i => ?_
  · exact And.intro h3 (And.intro h2 (And.intro h1 (And.intro h0 True.intro)))
  · have hi1 : (i 1).val < 16384 := (i 1).isLt
    simp only [List.mem_cons, exists_eq_or_imp, List.not_mem_nil, false_and, exists_false, or_false]
    by_cases h3 : 12288 ≤ (i 1).val
    · exact .inl (row_mem i _ inb3 h3 (by omega))
    by_cases h2 : 8192 ≤ (i 1).val
    · exact .inr (.inl (row_mem i _ inb2 h2 (by omega)))
    by_cases h1 : 4096 ≤ (i 1).val
    · exact .inr (.inr (.inl (row_mem i _ inb1 h1 (by omega))))
    · exact .inr (.inr (.inr ⟨_, rfl, row_mem i _ inb0 (by omega) (by omega)⟩))

end Cert.BnSwish

end
-- ==== Proof.Body.lean ====
/-
# The body, once, on a symbolic device

Fifteen barrier signals; the copies of the chunks and their statistics; the barrier wait; the fifteen sends of slot 0; the
fifteen receive waits; the load of all statistics; the four chunks of the result, each staged and copied out; the fifteen
send waits. The result is `outOf` of the gathered statistics, the projection and the device's block of `x`.
-/
module

public import proofs.«01_k».proof.Proof.Values

@[expose] public section

noncomputable section

namespace Cert.BnSwish

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Transfers (shareTokN shareDrop)

variable {F : FTy → Type} [FloatOps F]

local notation "𝕄" => MT nD τ sig Unit (Elt F) ℕ UU ℕ

variable (st : Dev nD → S4x64.Idx → Elt F .f32)

/-- The statistics slot as the body's stores address it. -/
abbrev r0 : Rect S16x4x64 := Rect.unit (s := S16x4x64) ![0, 0, 0] S1x4x64.size inb_S16x4x64_S1x4x64_0_0_0
theorem slot0_rect (c : Dev nD) (q) (f : Buf (Elt F) ((c : Thread nD τ).loc cc0_scratch2)) :
    (slotPts (F := F) c 0 q f) = (cM.view.loc (c : Thread nD τ) ↦[cM.view.setOn r0.set]{q} f) := by
  unfold slotPts
  show (cM.view.loc (c : Thread nD τ) ↦[(slotM 0).view.set]{q} f) = _
  congr 1
  show ((cM.view.slice r0).reshape _ _).set = _
  rw [View.set_reshape, View.set_slice]
  rfl

/-- Slot 0 after the stores of the statistics. -/
theorem slot0_after (c : Dev nD) {xv : S2x16384x64.Idx → Elt F .f32} (p q : S1x2x64.Idx → Elt F .f32) (f0 : Buf (Elt F) ((c : Thread nD τ).loc cc0_scratch2))
    (hst : st c = stOf xv) (hp : p = sumOf (chunk 0 xv) (chunk 1 xv) (chunk 2 xv) (chunk 3 xv)) (hq : q = sqOf (chunk 0 xv) (chunk 1 xv) (chunk 2 xv) (chunk 3 xv)) :
    (cM.view.loc (c : Thread nD τ) ↦[cM.view.setOn r0.set]{fullShare} cM.view.writes (Elt F) f0
        [⟨Rect.unit (s := S16x4x64) ![0, 2, 0] S1x2x64.size inb_S16x4x64_S1x2x64_0_2_0, q⟩, ⟨Rect.unit (s := S16x4x64) ![0, 0, 0] S1x2x64.size inb_S16x4x64_S1x2x64_0_0_0, p⟩] : sProp 𝕄)
      = slotPts c 0 fullShare (commFin st c) := by
  rw [slot0_rect]
  subst hp hq
  refine pointsTo_congr fun i hi => ?_
  have hi' : i ∈ (slotM 0).view.set := by
    have e : (slotM 0).view.set = cM.view.setOn r0.set := by
      show ((cM.view.slice r0).reshape _ _).set = _
      rw [View.set_reshape, View.set_slice]
      rfl
    rw [e]
    exact hi
  rw [slot_set] at hi'
  exact stats_stored st c f0 _ _ _ _ hst i (Finset.mem_filter.mp hi').2

/-- The buffers and counters a device's body works on, beside the protocol's: its block of `x`, the result, the two
scratches, the staged projection, slot 0, and the counters of its own copies. -/
def bufs (c : Dev nD) (xv : S2x16384x64.Idx → Elt F .f32) (wv : S64x128.Idx → Elt F .f32) : sProp 𝕄 :=
  iprop(((Memref.whole main_arg0 : Memref sig .tc _ _ _).view.loc (c : Thread nD τ) ↦[Finset.univ]{fullShare} xv)
    ∗ (∃ ov : Buf (Elt F) ((Memref.whole main_v1 : Memref sig .tc _ _ _).view.loc (c : Thread nD τ)), (Memref.whole main_v1 : Memref sig .tc _ _ _).view.loc (c : Thread nD τ) ↦[Finset.univ]{fullShare} ov)
    ∗ (∃ bv : Buf (Elt F) ((Memref.whole cc0_scratch0 : Memref sig .tc _ _ _).view.loc (c : Thread nD τ)), (Memref.whole cc0_scratch0 : Memref sig .tc _ _ _).view.loc (c : Thread nD τ) ↦[Finset.univ]{fullShare} bv)
    ∗ (∃ av : Buf (Elt F) ((Memref.whole cc0_scratch1 : Memref sig .tc _ _ _).view.loc (c : Thread nD τ)), (Memref.whole cc0_scratch1 : Memref sig .tc _ _ _).view.loc (c : Thread nD τ) ↦[Finset.univ]{fullShare} av)
    ∗ ((Memref.whole cc0_stg0_0 : Memref sig .tc _ _ _).view.loc (c : Thread nD τ) ↦[Finset.univ]{fullShare} wv))

/-- The counters of the device's own copies, at zero. -/
def locals (c : Dev nD) : sProp 𝕄 :=
  iprop(semVal ((c : Thread nD τ), .dma (1 : DmaSem sig)) 0 ∗ semVal ((c : Thread nD τ), .dma (2 : DmaSem sig)) 0
    ∗ semVal ((c : Thread nD τ), .dma (3 : DmaSem sig)) 0 ∗ semVal ((c : Thread nD τ), .dma (4 : DmaSem sig)) 0
    ∗ semVal ((c : Thread nD τ), .dma (5 : DmaSem sig)) 0 ∗ semVal ((c : Thread nD τ), .dma (6 : DmaSem sig)) 0)

/-- What the body ends with: nothing owed, the result written, the arguments as they were, every buffer and counter back. -/
def bodyEnd (c : Dev nD) (xv : S2x16384x64.Idx → Elt F .f32) (wv : S64x128.Idx → Elt F .f32) : sProp 𝕄 :=
  iprop(debt c 0
    ∗ ((Memref.whole main_arg0 : Memref sig .tc _ _ _).view.loc (c : Thread nD τ) ↦[Finset.univ]{fullShare} xv)
    ∗ ((Memref.whole main_v1 : Memref sig .tc _ _ _).view.loc (c : Thread nD τ) ↦[Finset.univ]{fullShare} outOf (commFin st c) wv xv)
    ∗ (∃ bv : Buf (Elt F) ((Memref.whole cc0_scratch0 : Memref sig .tc _ _ _).view.loc (c : Thread nD τ)), (Memref.whole cc0_scratch0 : Memref sig .tc _ _ _).view.loc (c : Thread nD τ) ↦[Finset.univ]{fullShare} bv)
    ∗ (∃ av : Buf (Elt F) ((Memref.whole cc0_scratch1 : Memref sig .tc _ _ _).view.loc (c : Thread nD τ)), (Memref.whole cc0_scratch1 : Memref sig .tc _ _ _).view.loc (c : Thread nD τ) ↦[Finset.univ]{fullShare} av)
    ∗ ((Memref.whole cc0_stg0_0 : Memref sig .tc _ _ _).view.loc (c : Thread nD τ) ↦[Finset.univ]{fullShare} wv)
    ∗ commPts c fullShare (commFin st c)
    ∗ semVal (barCell c) 0 ∗ locals (F := F) c
    ∗ each (fun d => semVal (recvCell c d) 0) slots ∗ each (fun d => semVal (sendCell c d) 0) slots)

set_option maxHeartbeats 3200000 in
set_option sl_exec.dmaWindow true in
/-- The body's run. -/
theorem body_run (c : Dev nD) (Q : PUnit → sProp 𝕄) (xv : S2x16384x64.Idx → Elt F .f32) (wv : S64x128.Idx → Elt F .f32)
    (hst : st c = stOf xv) :
   iprop(atSignal st c slots ∗ levAts L lv ∗ kitBar st c ∗ each (kitS st c) slots ∗ each (kitV st c) slots ∗ each (kitW st c) slots
      ∗ bufs c xv wv ∗ (∃ f, slotPts c 0 fullShare f) ∗ locals (F := F) c ∗ (bodyEnd st c xv wv -∗ Q ⟨⟩))
   ⊢ wp frame (wpE (defs₀ (F := F)) 𝒱₀ (c : Thread nD τ) none) Set.univ
      (cc0_body (Memref.whole main_arg0) (Memref.isWhole_whole _) (Memref.whole cc0_stg0_0) (Memref.isWhole_whole _) (Memref.whole main_v1) (Memref.isWhole_whole _)
        (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6) Q := by
  unfold bufs locals
  iintro ⟨Hsig, #Hlev, Hbar, HkS, HkV, HkW, ⟨Hx, ⟨%ov, Ho⟩, ⟨%bv, Hb⟩, ⟨%av, Ha⟩, Hw⟩, ⟨%f0, Hs0⟩, ⟨Hz1, Hz2, Hz3, Hz4, Hz5, Hz6⟩, Hk⟩
  obtain ⟨hd1, hd2, hd3, hd4, hd5, hd6, hd7, hd8, hd9, hd10, hd11, hd12, hd13, hd14, hd15, hd16, hd17, hd18, hd19, hd20, hd21, hd22, hd23, hd24, hd25, hd26, hd27, hd28, hd29, hd30⟩ := devs c
  sl_unfold [cc0_body]
  sl_exec
  iapply (step_signal st c _ 1 [2, 3, 4, 5, 6, 7, 8, 9, 10, 11, 12, 13, 14, 15] hd1 (by decide)) $$ Hsig
  iintro Hsig
  sl_exec
  iapply (step_signal st c _ 2 [3, 4, 5, 6, 7, 8, 9, 10, 11, 12, 13, 14, 15] hd2 (by decide)) $$ Hsig
  iintro Hsig
  sl_exec
  iapply (step_signal st c _ 3 [4, 5, 6, 7, 8, 9, 10, 11, 12, 13, 14, 15] hd3 (by decide)) $$ Hsig
  iintro Hsig
  sl_exec
  iapply (step_signal st c _ 4 [5, 6, 7, 8, 9, 10, 11, 12, 13, 14, 15] hd4 (by decide)) $$ Hsig
  iintro Hsig
  sl_exec
  iapply (step_signal st c _ 5 [6, 7, 8, 9, 10, 11, 12, 13, 14, 15] hd5 (by decide)) $$ Hsig
  iintro Hsig
  sl_exec
  iapply (step_signal st c _ 6 [7, 8, 9, 10, 11, 12, 13, 14, 15] hd6 (by decide)) $$ Hsig
  iintro Hsig
  sl_exec
  iapply (step_signal st c _ 7 [8, 9, 10, 11, 12, 13, 14, 15] hd7 (by decide)) $$ Hsig
  iintro Hsig
  sl_exec
  iapply (step_signal st c _ 8 [9, 10, 11, 12, 13, 14, 15] hd8 (by decide)) $$ Hsig
  iintro Hsig
  sl_exec
  iapply (step_signal st c _ 9 [10, 11, 12, 13, 14, 15] hd9 (by decide)) $$ Hsig
  iintro Hsig
  sl_exec
  iapply (step_signal st c _ 10 [11, 12, 13, 14, 15] hd10 (by decide)) $$ Hsig
  iintro Hsig
  sl_exec
  iapply (step_signal st c _ 11 [12, 13, 14, 15] hd11 (by decide)) $$ Hsig
  iintro Hsig
  sl_exec
  iapply (step_signal st c _ 12 [13, 14, 15] hd12 (by decide)) $$ Hsig
  iintro Hsig
  sl_exec
  iapply (step_signal st c _ 13 [14, 15] hd13 (by decide)) $$ Hsig
  iintro Hsig
  sl_exec
  iapply (step_signal st c _ 14 [15] hd14 (by decide)) $$ Hsig
  iintro Hsig
  sl_exec
  iapply (step_signal st c _ 15 [] hd15 (by decide)) $$ Hsig
  iintro Hsig
  clear hd1 hd2 hd3 hd4 hd5 hd6 hd7 hd8 hd9 hd10 hd11 hd12 hd13 hd14 hd15
  ihave Hd := (signal_done st c) $$ Hsig
  icases Hd with ⟨%W, HO⟩
  have hmw : ∀ q : DmaSem sig, lvS (.dma q) = 0 → ((levAts L lv : sProp 𝕄) ⊢ MayWait (c : Thread nD τ) (.dma q) default (owedR c slots)) :=
    fun q h => mayWait_low (F := F) c (.dma q) h slots
  ihave Hs0 := (Entails.of_eq (slot0_rect c fullShare f0)) $$ Hs0
  sl_exec
  iapply (step_barrier st c) $$ [HO Hbar]
  · isplitl []; · iexact Hlev
    isplitl [HO]
    · unfold debt; iexists _; iexact HO
    iexact Hbar
  iintro ⟨HO, Hpay, Hzb⟩
  -- the chunks the loads read
  have hd0 : body_run.sl.dma0 xv = chunk 0 xv := chunk_read 0 (off := ![0, 0, 0]) rfl rfl rfl _ _ xv
  have hd1 : body_run.sl.dma0_1 xv = chunk 1 xv := chunk_read 1 (off := ![0, 4096, 0]) rfl rfl rfl _ _ xv
  have hd2 : body_run.sl.dma0_2 xv = chunk 2 xv := chunk_read 2 (off := ![0, 8192, 0]) rfl rfl rfl _ _ xv
  have hd3 : body_run.sl.dma0_3 xv = chunk 3 xv := chunk_read 3 (off := ![0, 12288, 0]) rfl rfl rfl _ _ xv
  have hv0 : body_run.sl.v224 xv = chunk 0 xv := (load0 _ _ _ _).trans hd0
  have hv1 : body_run.sl.v246 xv = chunk 1 xv := (load1 _ _ _ _).trans hd1
  have hv2 : body_run.sl.v268 xv = chunk 2 xv := (load2 _ _ _ _).trans hd2
  have hv3 : body_run.sl.v290 xv = chunk 3 xv := (load3 _ _ _ _).trans hd3
  -- slot 0 holds the device's statistics
  have hp : k0_pay15 k0_pay1 (body_run.sl.r_6 xv) (body_run.sl.r_8 xv) (body_run.sl.v290 xv) = sumOf (chunk 0 xv) (chunk 1 xv) (chunk 2 xv) (chunk 3 xv) := by
    unfold body_run.sl.r_6 body_run.sl.r_8 body_run.sl.r body_run.sl.r_5 body_run.sl.r_2
    rw [hv0, hv1, hv2, hv3]
    rfl
  have hq : k0_pay16 k0_pay1 (body_run.sl.r_7 xv) (body_run.sl.r_9 xv) (body_run.sl.v290 xv) = sqOf (chunk 0 xv) (chunk 1 xv) (chunk 2 xv) (chunk 3 xv) := by
    unfold body_run.sl.r_7 body_run.sl.r_9 body_run.sl.r_1 body_run.sl.r_4 body_run.sl.r_3
    rw [hv0, hv1, hv2, hv3]
    rfl
  ihave Hs0 : slotPts c 0 fullShare (commFin st c) $$ [Hs0]
  · iapply (Entails.of_eq (slot0_after st c _ _ f0 hst hp hq)) $$ Hs0
  ihave Hs0 := (slot0_deal st c).1 $$ Hs0
  icases Hs0 with ⟨Hs0d, Hs0r, Hs0s⟩
  ihave Hsnd : atSend st c [] slots $$ [HO HkS Hpay Hs0s]
  · unfold atSend
    isplitl [HO]; · iexact HO
    isplitl [HkS]; · iexact HkS
    isplitl [Hpay]; · iexact Hpay
    isplitl [Hs0s]; · iexact Hs0s
    iempintro
  sl_exec
  iapply (step_send st c _ 1 [] [2, 3, 4, 5, 6, 7, 8, 9, 10, 11, 12, 13, 14, 15] [1] rfl hd16 (by decide)) $$ Hsnd
  iintro Hsnd
  sl_exec
  iapply (step_send st c _ 2 [1] [3, 4, 5, 6, 7, 8, 9, 10, 11, 12, 13, 14, 15] [1, 2] rfl hd17 (by decide)) $$ Hsnd
  iintro Hsnd
  sl_exec
  iapply (step_send st c _ 3 [1, 2] [4, 5, 6, 7, 8, 9, 10, 11, 12, 13, 14, 15] [1, 2, 3] rfl hd18 (by decide)) $$ Hsnd
  iintro Hsnd
  sl_exec
  iapply (step_send st c _ 4 [1, 2, 3] [5, 6, 7, 8, 9, 10, 11, 12, 13, 14, 15] [1, 2, 3, 4] rfl hd19 (by decide)) $$ Hsnd
  iintro Hsnd
  sl_exec
  iapply (step_send st c _ 5 [1, 2, 3, 4] [6, 7, 8, 9, 10, 11, 12, 13, 14, 15] [1, 2, 3, 4, 5] rfl hd20 (by decide)) $$ Hsnd
  iintro Hsnd
  sl_exec
  iapply (step_send st c _ 6 [1, 2, 3, 4, 5] [7, 8, 9, 10, 11, 12, 13, 14, 15] [1, 2, 3, 4, 5, 6] rfl hd21 (by decide)) $$ Hsnd
  iintro Hsnd
  sl_exec
  iapply (step_send st c _ 7 [1, 2, 3, 4, 5, 6] [8, 9, 10, 11, 12, 13, 14, 15] [1, 2, 3, 4, 5, 6, 7] rfl hd22 (by decide)) $$ Hsnd
  iintro Hsnd
  sl_exec
  iapply (step_send st c _ 8 [1, 2, 3, 4, 5, 6, 7] [9, 10, 11, 12, 13, 14, 15] [1, 2, 3, 4, 5, 6, 7, 8] rfl hd23 (by decide)) $$ Hsnd
  iintro Hsnd
  sl_exec
  iapply (step_send st c _ 9 [1, 2, 3, 4, 5, 6, 7, 8] [10, 11, 12, 13, 14, 15] [1, 2, 3, 4, 5, 6, 7, 8, 9] rfl hd24 (by decide)) $$ Hsnd
  iintro Hsnd
  sl_exec
  iapply (step_send st c _ 10 [1, 2, 3, 4, 5, 6, 7, 8, 9] [11, 12, 13, 14, 15] [1, 2, 3, 4, 5, 6, 7, 8, 9, 10] rfl hd25 (by decide)) $$ Hsnd
  iintro Hsnd
  sl_exec
  iapply (step_send st c _ 11 [1, 2, 3, 4, 5, 6, 7, 8, 9, 10] [12, 13, 14, 15] [1, 2, 3, 4, 5, 6, 7, 8, 9, 10, 11] rfl hd26 (by decide)) $$ Hsnd
  iintro Hsnd
  sl_exec
  iapply (step_send st c _ 12 [1, 2, 3, 4, 5, 6, 7, 8, 9, 10, 11] [13, 14, 15] [1, 2, 3, 4, 5, 6, 7, 8, 9, 10, 11, 12] rfl hd27 (by decide)) $$ Hsnd
  iintro Hsnd
  sl_exec
  iapply (step_send st c _ 13 [1, 2, 3, 4, 5, 6, 7, 8, 9, 10, 11, 12] [14, 15] [1, 2, 3, 4, 5, 6, 7, 8, 9, 10, 11, 12, 13] rfl hd28 (by decide)) $$ Hsnd
  iintro Hsnd
  sl_exec
  iapply (step_send st c _ 14 [1, 2, 3, 4, 5, 6, 7, 8, 9, 10, 11, 12, 13] [15] [1, 2, 3, 4, 5, 6, 7, 8, 9, 10, 11, 12, 13, 14] rfl hd29 (by decide)) $$ Hsnd
  iintro Hsnd
  sl_exec
  iapply (step_send st c _ 15 [1, 2, 3, 4, 5, 6, 7, 8, 9, 10, 11, 12, 13, 14] [] [1, 2, 3, 4, 5, 6, 7, 8, 9, 10, 11, 12, 13, 14, 15] rfl hd30 (by decide)) $$ Hsnd
  iintro Hsnd
  unfold atSend debt
  icases Hsnd with ⟨HO, -, -, -, Hcr⟩
  ihave Hrcv : atRecv st c [] slots $$ [HO HkV]
  · unfold atRecv debt
    isplitl [HO]; · iexact HO
    isplitl [HkV]; · iexact HkV
    iempintro
  sl_exec
  iapply (step_recv st c 1 [] [2, 3, 4, 5, 6, 7, 8, 9, 10, 11, 12, 13, 14, 15] [1] rfl (by decide)) $$ Hrcv
  iintro Hrcv
  sl_exec
  iapply (step_recv st c 2 [1] [3, 4, 5, 6, 7, 8, 9, 10, 11, 12, 13, 14, 15] [1, 2] rfl (by decide)) $$ Hrcv
  iintro Hrcv
  sl_exec
  iapply (step_recv st c 3 [1, 2] [4, 5, 6, 7, 8, 9, 10, 11, 12, 13, 14, 15] [1, 2, 3] rfl (by decide)) $$ Hrcv
  iintro Hrcv
  sl_exec
  iapply (step_recv st c 4 [1, 2, 3] [5, 6, 7, 8, 9, 10, 11, 12, 13, 14, 15] [1, 2, 3, 4] rfl (by decide)) $$ Hrcv
  iintro Hrcv
  sl_exec
  iapply (step_recv st c 5 [1, 2, 3, 4] [6, 7, 8, 9, 10, 11, 12, 13, 14, 15] [1, 2, 3, 4, 5] rfl (by decide)) $$ Hrcv
  iintro Hrcv
  sl_exec
  iapply (step_recv st c 6 [1, 2, 3, 4, 5] [7, 8, 9, 10, 11, 12, 13, 14, 15] [1, 2, 3, 4, 5, 6] rfl (by decide)) $$ Hrcv
  iintro Hrcv
  sl_exec
  iapply (step_recv st c 7 [1, 2, 3, 4, 5, 6] [8, 9, 10, 11, 12, 13, 14, 15] [1, 2, 3, 4, 5, 6, 7] rfl (by decide)) $$ Hrcv
  iintro Hrcv
  sl_exec
  iapply (step_recv st c 8 [1, 2, 3, 4, 5, 6, 7] [9, 10, 11, 12, 13, 14, 15] [1, 2, 3, 4, 5, 6, 7, 8] rfl (by decide)) $$ Hrcv
  iintro Hrcv
  sl_exec
  iapply (step_recv st c 9 [1, 2, 3, 4, 5, 6, 7, 8] [10, 11, 12, 13, 14, 15] [1, 2, 3, 4, 5, 6, 7, 8, 9] rfl (by decide)) $$ Hrcv
  iintro Hrcv
  sl_exec
  iapply (step_recv st c 10 [1, 2, 3, 4, 5, 6, 7, 8, 9] [11, 12, 13, 14, 15] [1, 2, 3, 4, 5, 6, 7, 8, 9, 10] rfl (by decide)) $$ Hrcv
  iintro Hrcv
  sl_exec
  iapply (step_recv st c 11 [1, 2, 3, 4, 5, 6, 7, 8, 9, 10] [12, 13, 14, 15] [1, 2, 3, 4, 5, 6, 7, 8, 9, 10, 11] rfl (by decide)) $$ Hrcv
  iintro Hrcv
  sl_exec
  iapply (step_recv st c 12 [1, 2, 3, 4, 5, 6, 7, 8, 9, 10, 11] [13, 14, 15] [1, 2, 3, 4, 5, 6, 7, 8, 9, 10, 11, 12] rfl (by decide)) $$ Hrcv
  iintro Hrcv
  sl_exec
  iapply (step_recv st c 13 [1, 2, 3, 4, 5, 6, 7, 8, 9, 10, 11, 12] [14, 15] [1, 2, 3, 4, 5, 6, 7, 8, 9, 10, 11, 12, 13] rfl (by decide)) $$ Hrcv
  iintro Hrcv
  sl_exec
  iapply (step_recv st c 14 [1, 2, 3, 4, 5, 6, 7, 8, 9, 10, 11, 12, 13] [15] [1, 2, 3, 4, 5, 6, 7, 8, 9, 10, 11, 12, 13, 14] rfl (by decide)) $$ Hrcv
  iintro Hrcv
  sl_exec
  iapply (step_recv st c 15 [1, 2, 3, 4, 5, 6, 7, 8, 9, 10, 11, 12, 13, 14] [] [1, 2, 3, 4, 5, 6, 7, 8, 9, 10, 11, 12, 13, 14, 15] rfl (by decide)) $$ Hrcv
  iintro Hrcv
  unfold atRecv debt
  icases Hrcv with ⟨⟨%W₁, HO⟩, -, Hrcv⟩
  ihave Hrcv := (each_sep (F := F) _ _ slots) $$ Hrcv
  icases Hrcv with ⟨Hrp, Hzr⟩
  ihave Hcm := (comm_right st c) $$ [Hs0r Hrp]
  · isplitl [Hs0r] <;> iassumption
  icases Hcm with ⟨Hcm, Hleft⟩
  unfold commPts
  sl_exec
  ihave Hdn : atDone st c [] slots $$ [HO HkW Hcr]
  · unfold atDone debt
    isplitl [HO]
    · iexists _; iexact HO
    isplitl [HkW]; · iexact HkW
    isplitl [Hcr]; · iexact Hcr
    iempintro
  iapply (step_done st c 1 [] [2, 3, 4, 5, 6, 7, 8, 9, 10, 11, 12, 13, 14, 15] [1] rfl (by decide)) $$ Hdn
  iintro Hdn
  sl_exec
  iapply (step_done st c 2 [1] [3, 4, 5, 6, 7, 8, 9, 10, 11, 12, 13, 14, 15] [1, 2] rfl (by decide)) $$ Hdn
  iintro Hdn
  sl_exec
  iapply (step_done st c 3 [1, 2] [4, 5, 6, 7, 8, 9, 10, 11, 12, 13, 14, 15] [1, 2, 3] rfl (by decide)) $$ Hdn
  iintro Hdn
  sl_exec
  iapply (step_done st c 4 [1, 2, 3] [5, 6, 7, 8, 9, 10, 11, 12, 13, 14, 15] [1, 2, 3, 4] rfl (by decide)) $$ Hdn
  iintro Hdn
  sl_exec
  iapply (step_done st c 5 [1, 2, 3, 4] [6, 7, 8, 9, 10, 11, 12, 13, 14, 15] [1, 2, 3, 4, 5] rfl (by decide)) $$ Hdn
  iintro Hdn
  sl_exec
  iapply (step_done st c 6 [1, 2, 3, 4, 5] [7, 8, 9, 10, 11, 12, 13, 14, 15] [1, 2, 3, 4, 5, 6] rfl (by decide)) $$ Hdn
  iintro Hdn
  sl_exec
  iapply (step_done st c 7 [1, 2, 3, 4, 5, 6] [8, 9, 10, 11, 12, 13, 14, 15] [1, 2, 3, 4, 5, 6, 7] rfl (by decide)) $$ Hdn
  iintro Hdn
  sl_exec
  iapply (step_done st c 8 [1, 2, 3, 4, 5, 6, 7] [9, 10, 11, 12, 13, 14, 15] [1, 2, 3, 4, 5, 6, 7, 8] rfl (by decide)) $$ Hdn
  iintro Hdn
  sl_exec
  iapply (step_done st c 9 [1, 2, 3, 4, 5, 6, 7, 8] [10, 11, 12, 13, 14, 15] [1, 2, 3, 4, 5, 6, 7, 8, 9] rfl (by decide)) $$ Hdn
  iintro Hdn
  sl_exec
  iapply (step_done st c 10 [1, 2, 3, 4, 5, 6, 7, 8, 9] [11, 12, 13, 14, 15] [1, 2, 3, 4, 5, 6, 7, 8, 9, 10] rfl (by decide)) $$ Hdn
  iintro Hdn
  sl_exec
  iapply (step_done st c 11 [1, 2, 3, 4, 5, 6, 7, 8, 9, 10] [12, 13, 14, 15] [1, 2, 3, 4, 5, 6, 7, 8, 9, 10, 11] rfl (by decide)) $$ Hdn
  iintro Hdn
  sl_exec
  iapply (step_done st c 12 [1, 2, 3, 4, 5, 6, 7, 8, 9, 10, 11] [13, 14, 15] [1, 2, 3, 4, 5, 6, 7, 8, 9, 10, 11, 12] rfl (by decide)) $$ Hdn
  iintro Hdn
  sl_exec
  iapply (step_done st c 13 [1, 2, 3, 4, 5, 6, 7, 8, 9, 10, 11, 12] [14, 15] [1, 2, 3, 4, 5, 6, 7, 8, 9, 10, 11, 12, 13] rfl (by decide)) $$ Hdn
  iintro Hdn
  sl_exec
  iapply (step_done st c 14 [1, 2, 3, 4, 5, 6, 7, 8, 9, 10, 11, 12, 13] [15] [1, 2, 3, 4, 5, 6, 7, 8, 9, 10, 11, 12, 13, 14] rfl (by decide)) $$ Hdn
  iintro Hdn
  sl_exec
  iapply (step_done st c 15 [1, 2, 3, 4, 5, 6, 7, 8, 9, 10, 11, 12, 13, 14] [] [1, 2, 3, 4, 5, 6, 7, 8, 9, 10, 11, 12, 13, 14, 15] rfl (by decide)) $$ Hdn
  iintro Hdn
  sl_exec
  -- what was written
  clear hd16 hd17 hd18 hd19 hd20 hd21 hd22 hd23 hd24 hd25 hd26 hd27 hd28 hd29 hd30
  -- what was written
  have hr10 : body_run.sl.r_10 st c = k0_pay19 (commFin st c) := congrArg k0_pay19 (load_comm _ _)
  have hr11 : body_run.sl.r_11 st c = k0_pay20 (commFin st c) := congrArg k0_pay20 (load_comm _ _)
  have hr12 : body_run.sl.r_12 wv = k0_pay21 wv := congrArg k0_pay21 (load_w _ _)
  have hr13 : body_run.sl.r_13 st c xv = k0_pay22 (commFin st c) (chunk 0 xv) := congrArg (fun cm => k0_pay22 cm (chunk 0 xv)) (load_comm _ _)
  have hr14 : body_run.sl.r_14 st c = k0_pay23 (commFin st c) := congrArg k0_pay23 (load_comm _ _)
  have hr15 : body_run.sl.r_15 st c xv = k0_pay27 (k0_pay19 (commFin st c)) (chunk 1 xv) := congrArg (fun v => k0_pay27 v (chunk 1 xv)) hr10
  have hr16 : body_run.sl.r_16 st c xv = k0_pay34 (k0_pay19 (commFin st c)) (k0_pay20 (commFin st c)) (chunk 3 xv) := by
    unfold body_run.sl.r_16
    rw [hr10, hr11]
  have hc0 : body_run.sl.dma7 st c xv wv av = outChunk (commFin st c) wv (chunk 0 xv) := by
    unfold body_run.sl.dma7 body_run.sl.Ha_2
    exact staged_chunk 0 av _ _ _ _ _ _ _ _ _ _ _ (by rw [hr12, hr13, hr14]; rfl) (by rw [hr12, hr13, hr14]; rfl)
  have hc1 : body_run.sl.dma12 st c xv wv av = outChunk (commFin st c) wv (chunk 1 xv) := by
    unfold body_run.sl.dma12 body_run.sl.Ha_4
    exact staged_chunk 1 av _ _ _ _ _ _ _ _ _ _ _ (by rw [hr11, hr12, hr15]; exact pay29_eq _ _ _) (by rw [hr11, hr12, hr15]; exact pay30_eq _ _ _)
  have hc2 : body_run.sl.dma17 st c xv wv av = outChunk (commFin st c) wv (chunk 2 xv) := by
    unfold body_run.sl.dma17 body_run.sl.Ha_6
    exact staged_chunk 0 av _ _ _ _ _ _ _ _ _ _ _ (by rw [hr10, hr11, hr12]; exact pay32_eq _ _ _) (by rw [hr10, hr11, hr12]; exact pay33_eq _ _ _)
  have hc3 : body_run.sl.dma22 st c xv wv av = outChunk (commFin st c) wv (chunk 3 xv) := by
    unfold body_run.sl.dma22 body_run.sl.Ha_8
    exact staged_chunk 1 av _ _ _ _ _ _ _ _ _ _ _ (by rw [hr10, hr11, hr12]; exact pay35_eq _ _ _) (by rw [hr12, hr16]; exact pay36_eq _ _ _)
  have ho := result_stored ov (outOf (commFin st c) wv xv) (body_run.sl.dma7 st c xv wv av) (body_run.sl.dma12 st c xv wv av)
    (body_run.sl.dma17 st c xv wv av) (body_run.sl.dma22 st c xv wv av)
    inb_S2x16384x128_S2x4096x128_0_0_0 inb_S2x16384x128_S2x4096x128_0_4096_0 inb_S2x16384x128_S2x4096x128_0_8192_0 inb_S2x16384x128_S2x4096x128_0_12288_0
    (fun x => (congrFun hc0 x).trans (outOf_emb 0 rfl rfl rfl _ _ _ _ x)) (fun x => (congrFun hc1 x).trans (outOf_emb 1 rfl rfl rfl _ _ _ _ x))
    (fun x => (congrFun hc2 x).trans (outOf_emb 2 rfl rfl rfl _ _ _ _ x)) (fun x => (congrFun hc3 x).trans (outOf_emb 3 rfl rfl rfl _ _ _ _ x))
  unfold atDone
  icases Hdn with ⟨HO, -, -, Hdn⟩
  ihave Hdn := (each_sep (F := F) _ _ slots) $$ Hdn
  icases Hdn with ⟨Hsp, Hzs⟩
  ihave Hcm := (comm_join st c) $$ [Hcm Hleft Hs0d Hsp]
  · isplitl [Hcm]; · unfold commPts; iexact Hcm
    isplitl [Hleft]; · iexact Hleft
    isplitl [Hs0d] <;> iassumption
  rw [wp_ret]
  imodintro
  iapply Hk
  unfold bodyEnd locals
  isplitl [HO]; · iexact HO
  isplitl [Hx]; · iexact Hx
  isplitl [Ho]
  · iapply (Entails.of_eq (congrArg (fun g => ((Memref.whole main_v1 : Memref sig .tc _ _ _).view.loc (c : Thread nD τ) ↦[Finset.univ]{fullShare} g : sProp 𝕄)) ho)) $$ Ho
  isplitl [Hb]; · iexists _; iexact Hb
  isplitl [Ha]; · iexists _; iexact Ha
  isplitl [Hw]; · iexact Hw
  isplitl [Hcm]; · iexact Hcm
  isplitl [Hzb]; · iexact Hzb
  isplitl [Hz1 Hz2 Hz3 Hz4 Hz5 Hz6]
  · isplitl [Hz1]; · iexact Hz1
    isplitl [Hz2]; · iexact Hz2
    isplitl [Hz3]; · iexact Hz3
    isplitl [Hz4]; · iexact Hz4
    isplitl [Hz5]; · iexact Hz5
    iexact Hz6
  isplitl [Hzr] <;> iassumption

end Cert.BnSwish

end
-- ==== Proof.Deal.lean ====
/-
# What each device starts from

The cells of all devices are allocated under one update, because the barrier and receive cells of a device are touched by every
other device; the duty tokens, minted with the cell they belong to, are then dealt to the devices that pay them.
-/
module

public import proofs.«01_k».proof.Proof.Steps

@[expose] public section

noncomputable section

namespace Cert.BnSwish

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (st : Dev nD → S4x64.Idx → Elt F .f32)

/-! ## Conjunctions over the slots -/

/-- The slots a copy uses. -/
abbrev Sl : Type := {d : Fin 16 // d ≠ 0}

/-- The conjunction over them, as the body lists it. -/
theorem sl_each (Φ : Fin 16 → sProp 𝕄) : (bigSep Finset.univ fun d : Sl => Φ d.1) = each Φ slots := by
  rw [bigSep_subtype, each_slots]
  congr 1

/-- A conjunction over all sixteen is the one over them and the part at `0`. -/
theorem all_each (Φ : Fin 16 → sProp 𝕄) : bigSep Finset.univ Φ = iprop(Φ 0 ∗ each Φ slots) := by
  rw [bigSep_univ_at Φ (0 : Fin 16), each_slots]

/-! ## The cells and tokens of all devices -/

/-- Which cell of a device: its barrier, a send, a receive. -/
abbrev Ck : Type := Unit ⊕ (Sl ⊕ Sl)
def csem : Ck → SemLoc sig
  | .inl _ => .reg barS
  | .inr (.inl d) => .dma (sendS d.1)
  | .inr (.inr d) => .dma (recvS d.1)
theorem csem_injective : Function.Injective csem := by
  rintro (_ | d | d) (_ | e | e) h
  · rfl
  · cases h
  · cases h
  · cases h
  · have := congrArg Fin.val (SemLoc.dma.inj h); rw [sendS_val, sendS_val] at this
    exact congrArg (fun x => Sum.inr (Sum.inl x)) (Subtype.ext (Fin.ext (by omega)))
  · have := congrArg Fin.val (SemLoc.dma.inj h); rw [sendS_val, recvS_val] at this
    have := d.1.isLt; omega
  · cases h
  · have := congrArg Fin.val (SemLoc.dma.inj h); rw [sendS_val, recvS_val] at this
    have := e.1.isLt; omega
  · have := congrArg Fin.val (SemLoc.dma.inj h); rw [recvS_val, recvS_val] at this
    exact congrArg (fun x => Sum.inr (Sum.inr x)) (Subtype.ext (Fin.ext (by omega)))
abbrev kcell (ck : Dev nD × Ck) : GSem nD τ sig := ((ck.1 : Thread nD τ), csem ck.2)
theorem dev_of {a b : Dev nD} {s t : SemLoc sig} (h : (((a : Thread nD τ), s) : GSem nD τ sig) = ((b : Thread nD τ), t)) : a = b ∧ s = t :=
  ⟨congrArg (fun g : GSem nD τ sig => g.1.1) h, congrArg Prod.snd h⟩
theorem kcell_injective : Function.Injective kcell := fun a b h =>
  Prod.ext (dev_of h).1 (csem_injective (dev_of h).2)
def ownCells : Finset (GSem nD τ sig) := Finset.univ.map ⟨kcell, kcell_injective⟩

/-- A device's own cells' tokens: duty `s` of its barrier, the one duty of each send and of each receive. -/
abbrev Tk : Type := Sl ⊕ (Sl ⊕ Sl)
def tokS : Tk → SemLoc sig × Fin 16
  | .inl s => (.reg barS, s.1)
  | .inr k => (csem (.inr k), 0)
abbrev tokOf (ck : Dev nD × Tk) : GSem nD τ sig × ℕ × Fin 16 := (((ck.1 : Thread nD τ), (tokS ck.2).1), 0, (tokS ck.2).2)
theorem tokS_injective : Function.Injective tokS := by
  rintro (s | k) (s' | k') h
  · exact congrArg Sum.inl (Subtype.ext (congrArg Prod.snd h))
  · exact absurd (congrArg Prod.fst h) (fun h' => by
      have := csem_injective (a₁ := .inl ()) (a₂ := .inr k') h'; cases this)
  · exact absurd (congrArg Prod.fst h) (fun h' => by
      have := csem_injective (a₁ := .inr k) (a₂ := .inl ()) h'; cases this)
  · have := csem_injective (congrArg Prod.fst h)
    rw [Sum.inr.inj this]
theorem tokOf_injective : Function.Injective tokOf := fun a b h => by
  have h1 := dev_of (congrArg Prod.fst h)
  exact Prod.ext h1.1 (tokS_injective (Prod.ext h1.2 (congrArg (fun x => x.2.2) h)))
def ownToks : Finset (GSem nD τ sig × ℕ × Fin 16) := Finset.univ.map ⟨tokOf, tokOf_injective⟩

/-- A conjunction over all cells, device by device. -/
theorem cells_split (Φ : GSem nD τ sig → sProp 𝕄) :
    bigSep ownCells Φ = bigSep Finset.univ fun c : Dev nD => bigSep Finset.univ fun k : Ck => Φ (kcell (c, k)) := by
  unfold ownCells; rw [bigSep_map, bigSep_univ_prod]; rfl

/-- and kind by kind. -/
theorem kinds_split (c : Dev nD) (Φ : GSem nD τ sig → sProp 𝕄) :
    (bigSep Finset.univ fun k : Ck => Φ (kcell (c, k)))
      = iprop(Φ (barCell c) ∗ each (fun d => Φ (sendCell c d)) slots ∗ each (fun d => Φ (recvCell c d)) slots) := by
  rw [bigSep_univ_sum, bigSep_univ_sum, ← sl_each, ← sl_each]
  have h : (bigSep Finset.univ fun a : Unit => Φ (kcell (c, .inl a))) = Φ (barCell c) := by
    rw [show (Finset.univ : Finset Unit) = {()} from rfl, bigSep_singleton]; rfl
  rw [h]; rfl

/-- The tokens of device `c`'s own cells, -/
def toks (c : Dev nD) : sProp 𝕄 :=
  iprop((bigSep Finset.univ fun s : Sl => dutyTok ER (barCell c) 0 s.1) ∗ (bigSep Finset.univ fun d : Sl => dutyTok ER (sendCell c d.1) 0 0)
    ∗ (bigSep Finset.univ fun d : Sl => dutyTok ER (recvCell c d.1) 0 0))
/-- and those it pays with. -/
def payToks (c : Dev nD) : sProp 𝕄 :=
  iprop((bigSep Finset.univ fun d : Sl => dutyTok ER (barCell (c + d.1)) 0 (-d.1)) ∗ (bigSep Finset.univ fun d : Sl => dutyTok ER (sendCell c d.1) 0 0)
    ∗ (bigSep Finset.univ fun d : Sl => dutyTok ER (recvCell (c + d.1) d.1) 0 0))

theorem toks_split : bigSep ownToks (fun x => (dutyTok ER x.1 x.2.1 x.2.2 : sProp 𝕄)) = bigSep Finset.univ fun c : Dev nD => toks c := by
  unfold ownToks; rw [bigSep_map, bigSep_univ_prod]
  exact bigSep_congr fun c _ => by unfold toks; rw [bigSep_univ_sum, bigSep_univ_sum]; rfl

/-- Signal `d` of device `c` pays duty `-d` of device `c + d`: a pairing of all signals with all duties. -/
def paySignal : Dev nD × Sl ≃ Dev nD × Sl where
  toFun x := (x.1 + x.2.1, ⟨-x.2.1, neg_ne x.2.1 x.2.2⟩)
  invFun x := (x.1 + x.2.1, ⟨-x.2.1, neg_ne x.2.1 x.2.2⟩)
  left_inv := by decide
  right_inv := by decide
/-- Copy `d` of device `c` pays receive cell `d` of device `c + d`. -/
def payCopy : Dev nD × Sl ≃ Dev nD × Sl where
  toFun x := (x.1 + x.2.1, x.2)
  invFun x := (x.1 - x.2.1, x.2)
  left_inv := by decide
  right_inv := by decide

/-- The tokens, dealt to the devices that pay with them. -/
theorem toks_deal : (bigSep Finset.univ fun c : Dev nD => (toks c : sProp 𝕄)) = bigSep Finset.univ fun c : Dev nD => payToks c := by
  have hB := (bigSep_univ_prod fun x : Dev nD × Sl => (dutyTok ER (barCell x.1) 0 x.2.1 : sProp 𝕄)).symm.trans
    ((bigSep_univ_equiv paySignal _).trans (bigSep_univ_prod _))
  have hR := (bigSep_univ_prod fun x : Dev nD × Sl => (dutyTok ER (recvCell x.1 x.2.1) 0 0 : sProp 𝕄)).symm.trans
    ((bigSep_univ_equiv payCopy _).trans (bigSep_univ_prod _))
  unfold toks payToks
  simp only [bigSep_sep']
  rw [hB, hR]
  rfl

/-! ## Allocation -/

/-- What the launch element deals device `c`. -/
def G (c : Dev nD) : sProp 𝕄 :=
  iprop((bigSep Finset.univ fun k : Ck => roundState ER (Rd st) (kcell (c, k)) 0)
    ∗ (bigSep Finset.univ fun k : Ck => iprop(atPos ER (kcell (c, k)) 0 ∅ 0 ∗ reached ER (kcell (c, k)) 0)) ∗ toks c)

theorem fund_own : BI.own (ER (initOf ownCells ownToks)) ⊢ (|==> bigSep Finset.univ (G st) : sProp 𝕄) := by
  iintro HX
  imod (Rounds.fund ER (Rd st) ownCells ownToks) $$ HX with ⟨Hst, Hr, Hat, Htok⟩
  imodintro
  ihave Hst' := (Entails.of_eq (cells_split fun g => roundState ER (Rd st) g 0)) $$ Hst
  ihave Hat' := (Entails.of_eq (cells_split fun g => (atPos ER g 0 ∅ 0 : sProp 𝕄))) $$ Hat
  ihave Hr' := (Entails.of_eq (cells_split fun g => (reached ER g 0 : sProp 𝕄))) $$ Hr
  ihave Htok' := (Entails.of_eq (toks_split (F := F))) $$ Htok
  unfold G; simp only [bigSep_sep']
  isplitl [Hst']; · iexact Hst'
  isplitl [Hat' Hr']
  · isplitl [Hat'] <;> iassumption
  iexact Htok'

/-- The kernel's own semaphores: those of its own copies, the sends', the receives'. -/
abbrev Ok : Type := Fin 6 ⊕ (Fin 16 ⊕ Fin 16)
theorem own_lt (i : Fin 6) : 1 + i.val < sig.nDmaSem := by revert i; decide
def osem : Ok → SemLoc sig
  | .inl i => .dma ⟨1 + i.val, own_lt i⟩
  | .inr (.inl d) => .dma (sendS d)
  | .inr (.inr d) => .dma (recvS d)

/-- The two semaphores no copy uses. -/
def spare (c : Dev nD) : sProp 𝕄 := iprop(semVal (sendCell c 0) 0 ∗ semVal (recvCell c 0) 0)
def locals6 (c : Dev nD) : sProp 𝕄 := bigSep Finset.univ fun i : Fin 6 => semVal ((c : Thread nD τ), .dma ⟨1 + i.val, own_lt i⟩) 0

theorem ownSems0_eq (c : Dev nD) : (Pipeline.ownSems0 (Ix := Unit) (Name := ℕ) (U := UU) (Lvl := ℕ) (Val := Elt F) (τ := τ) osem c : sProp 𝕄)
    = iprop(locals6 c ∗ (semVal (sendCell c 0) 0 ∗ each (fun d => semVal (sendCell c d) 0) slots) ∗ (semVal (recvCell c 0) 0 ∗ each (fun d => semVal (recvCell c d) 0) slots)) := by
  unfold Pipeline.ownSems0 locals6
  rw [bigSep_univ_sum, bigSep_univ_sum, ← all_each (fun d => (semVal (sendCell c d) 0 : sProp 𝕄)), ← all_each (fun d => (semVal (recvCell c d) 0 : sProp 𝕄))]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems_split (c : Dev nD) :
    iprop(Pipeline.ownSems0 (Ix := Unit) (Name := ℕ) (U := UU) (Lvl := ℕ) (Val := Elt F) (τ := τ) osem c ∗ unscopedSems0 c)
      ⊢ iprop((bigSep Finset.univ fun k : Ck => semVal (kcell (c, k)) 0) ∗ locals6 (F := F) c ∗ spare c) := by
  rw [ownSems0_eq, unscopedSems0_eq, kinds_split c (fun g => semVal g 0)]
  unfold spare
  iintro ⟨⟨HL, ⟨HS0, HS⟩, ⟨HV0, HV⟩⟩, HB⟩
  isplitl [HB HS HV]
  · isplitl [HB]; · iexact HB
    isplitl [HS] <;> iassumption
  isplitl [HL]; · iexact HL
  isplitl [HS0] <;> iassumption

theorem core_alloc (c : Dev nD) :
    iprop(Pipeline.ownSems0 (Ix := Unit) (Name := ℕ) (U := UU) (Lvl := ℕ) (Val := Elt F) (τ := τ) osem c ∗ unscopedSems0 c ∗ G st c)
      ⊢ |={Set.univ}=> iprop((bigSep Finset.univ fun k => iprop(∃ κ : ℕ, cellInv ER (Rd st) κ (kcell (c, k))))
          ∗ (bigSep Finset.univ fun k => iprop(atPos ER (kcell (c, k)) 0 ∅ 0 ∗ reached ER (kcell (c, k)) 0)) ∗ toks c ∗ locals6 (F := F) c ∗ spare c) := by
  unfold G
  iintro ⟨Hos, Hus, Hst, Hat, Htok⟩
  ihave Hv := (sems_split (F := F) c) $$ [Hos Hus]
  · isplitl [Hos] <;> iassumption
  icases Hv with ⟨Hv, HL⟩
  imod (show iprop((bigSep Finset.univ fun k : Ck => semVal (kcell (c, k)) 0) ∗ bigSep Finset.univ fun k : Ck => roundState ER (Rd st) (kcell (c, k)) 0)
      ⊢ (|={Set.univ}=> bigSep Finset.univ fun k => iprop(∃ κ : ℕ, cellInv ER (Rd st) κ (kcell (c, k))) : sProp 𝕄) from by
        rw [← bigSep_sep']
        exact (bigSep_mono fun k _ => (Rounds.body_intro ER (Rd st) (kcell (c, k))).trans inv_alloc).trans (bigSep_fupd _ _)) $$ [Hv Hst] with Hinv
  · isplitl [Hv] <;> iassumption
  imodintro
  isplitl [Hinv]; · iexact Hinv
  isplitl [Hat]; · iexact Hat
  isplitl [Htok]; · iexact Htok
  iexact HL

/-! ## Dealing -/

/-- What every device may keep a copy of: a cell's invariant and that its round 0 is reached. -/
def known (g : GSem nD τ sig) : sProp 𝕄 := iprop((∃ κ : ℕ, cellInv ER (Rd st) κ g) ∗ reached ER g 0)
instance known_persistent (g : GSem nD τ sig) : BI.Persistent (known (F := F) st g) := by unfold known; infer_instance
def records : sProp 𝕄 := bigSep Finset.univ fun ck : Dev nD × Ck => known st (kcell ck)
instance records_persistent : BI.Persistent (records (F := F) st) := by unfold records; infer_instance

theorem rec_at (ck : Dev nD × Ck) : records st ⊢ known st (kcell ck) := by
  unfold records
  exact bigSep_elim (Finset.mem_univ ck)
theorem rec_bar (c : Dev nD) : records st ⊢ known st (barCell c) := rec_at st (c, .inl ())
theorem rec_send (c : Dev nD) (d : Sl) : records st ⊢ known st (sendCell c d.1) := rec_at st (c, .inr (.inl d))
theorem rec_recv (c : Dev nD) (d : Sl) : records st ⊢ known st (recvCell c d.1) := rec_at st (c, .inr (.inr d))

/-- The part of a signal's kit the launch makes: all but the slot. -/
def kitG (c : Dev nD) (d : Fin 16) : sProp 𝕄 :=
  iprop((∃ κ : ℕ, cellInv ER (Rd st) κ (barCell (c + d))) ∗ reached ER (barCell (c + d)) 0 ∗ reached ER (recvCell c (-d)) 0
    ∗ dutyTok ER (barCell (c + d)) 0 (-d))
/-- The part of a receive's kit: all but the credit. -/
def kitP (c : Dev nD) (g : GSem nD τ sig) : sProp 𝕄 := iprop((∃ κ : ℕ, cellInv ER (Rd st) κ g) ∗ atPos ER g 0 ∅ 0)

/-- What the global step makes of it. -/
def G' (c : Dev nD) : sProp 𝕄 :=
  iprop(each (kitG st c) slots ∗ each (kitS st c) slots ∗ kitP st c (barCell c) ∗ each (fun d => kitP st c (recvCell c d)) slots ∗ each (kitW st c) slots
    ∗ locals6 (F := F) c ∗ spare c)

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem deal_one (c : Dev nD) :
    iprop(records st ∗ (bigSep Finset.univ fun k : Ck => (atPos ER (kcell (c, k)) 0 ∅ 0 : sProp 𝕄)) ∗ payToks c ∗ locals6 (F := F) c ∗ spare c) ⊢ G' st c := by
  rw [kinds_split c (fun g => (atPos ER g 0 ∅ 0 : sProp 𝕄))]
  unfold G' payToks
  rw [← sl_each, ← sl_each, ← sl_each, ← sl_each, ← sl_each, ← sl_each]
  iintro ⟨#HR, ⟨HaB, HaS, HaV⟩, ⟨HtB, HtS, HtV⟩, HL⟩
  isplitl [HtB]
  · iapply (with_persistent (R := records st) (Φ := fun d : Sl => (dutyTok ER (barCell (c + d.1)) 0 (-d.1) : sProp 𝕄)) fun d _ => by
      iintro ⟨#HR, Ht⟩
      unfold kitG
      ihave HB := (rec_bar st (c + d.1)) $$ HR
      ihave HV := (rec_recv st c ⟨-d.1, neg_ne d.1 d.2⟩) $$ HR
      unfold known
      icases HB with ⟨HBi, HBr⟩
      icases HV with ⟨-, HVr⟩
      isplitl [HBi]; · iexact HBi
      isplitl [HBr]; · iexact HBr
      isplitl [HVr]; · iexact HVr
      iexact Ht)
    isplitr; · iexact HR
    iexact HtB
  isplitl [HtS HtV]
  · iapply (with_persistent (R := records st) (Φ := fun d : Sl => (iprop(dutyTok ER (sendCell c d.1) 0 0 ∗ dutyTok ER (recvCell (c + d.1) d.1) 0 0) : sProp 𝕄)) fun d _ => by
      iintro ⟨#HR, Ht, Ht'⟩
      unfold kitS
      ihave HB := (rec_send st c d) $$ HR
      ihave HV := (rec_recv st (c + d.1) d) $$ HR
      unfold known
      icases HB with ⟨HBi, HBr⟩
      icases HV with ⟨HVi, -⟩
      isplitl [HBi]; · iexact HBi
      isplitl [HVi]; · iexact HVi
      isplitl [HBr]; · iexact HBr
      isplitl [Ht] <;> iassumption)
    isplitr; · iexact HR
    rw [bigSep_sep']
    isplitl [HtS] <;> iassumption
  isplitl [HaB]
  · unfold kitP
    ihave HB := (rec_bar st c) $$ HR
    unfold known
    icases HB with ⟨HBi, -⟩
    isplitl [HBi] <;> iassumption
  isplitl [HaV]
  · iapply (with_persistent (R := records st) (Φ := fun d : Sl => (atPos ER (recvCell c d.1) 0 ∅ 0 : sProp 𝕄)) fun d _ => by
      iintro ⟨#HR, Ha⟩
      unfold kitP
      ihave HB := (rec_recv st c d) $$ HR
      unfold known
      icases HB with ⟨HBi, -⟩
      isplitl [HBi] <;> iassumption)
    isplitr; · iexact HR
    iexact HaV
  isplitl [HaS]
  · iapply (with_persistent (R := records st) (Φ := fun d : Sl => (atPos ER (sendCell c d.1) 0 ∅ 0 : sProp 𝕄)) fun d _ => by
      iintro ⟨#HR, Ha⟩
      unfold kitW
      ihave HB := (rec_send st c d) $$ HR
      unfold known
      icases HB with ⟨HBi, -⟩
      isplitl [HBi] <;> iassumption)
    isplitr; · iexact HR
    iexact HaS
  iexact HL

theorem regroup :
    (bigSep Finset.univ fun c : Dev nD => iprop((bigSep Finset.univ fun k => iprop(∃ κ : ℕ, cellInv ER (Rd st) κ (kcell (c, k))))
          ∗ (bigSep Finset.univ fun k => iprop(atPos ER (kcell (c, k)) 0 ∅ 0 ∗ reached ER (kcell (c, k)) 0)) ∗ toks c ∗ locals6 (F := F) c ∗ spare c) : sProp 𝕄)
      ⊢ bigSep Finset.univ (G' st) := by
  have hrec : records st = iprop((bigSep Finset.univ fun c : Dev nD => bigSep Finset.univ fun k : Ck => iprop(∃ κ : ℕ, cellInv ER (Rd st) κ (kcell (c, k))))
      ∗ bigSep Finset.univ fun c : Dev nD => bigSep Finset.univ fun k : Ck => (reached ER (kcell (c, k)) 0 : sProp 𝕄)) := by
    unfold records known
    rw [bigSep_univ_prod]
    simp only [bigSep_sep']
  simp only [bigSep_sep']
  rw [toks_deal]
  iintro ⟨HI, ⟨Hat, HRr⟩, Htk, HL, HS⟩
  ihave HR := (Entails.of_eq hrec.symm) $$ [HI HRr]
  · isplitl [HI] <;> iassumption
  iapply (with_persistent (R := records st) fun c _ => deal_one st c)
  isplitl [HR]; · iexact HR
  simp only [bigSep_sep']
  isplitl [Hat]; · iexact Hat
  isplitl [Htk]; · iexact Htk
  isplitl [HL] <;> iassumption

/-- The global step: every device's semaphores at once. -/
theorem glob : (bigSep Finset.univ fun c => iprop(Pipeline.ownSems0 (Ix := Unit) (Name := ℕ) (U := UU) (Lvl := ℕ) (Val := Elt F) (τ := τ) osem c ∗ unscopedSems0 c ∗ G st c) : sProp 𝕄)
    ⊢ |={Set.univ}=> bigSep Finset.univ (G' st) :=
  ((bigSep_mono fun c _ => core_alloc st c).trans (bigSep_fupd _ _)).trans (BI.fupd_mono (regroup st))

/-! ## The launch's credit -/

theorem tally_at (g g' : GSem nD τ sig) (n : ℕ) : (tallyAt (Ix := Unit) g () n) g' () = if g' = g then n else 0 := by
  rw [tallyAt_apply]
  by_cases h : g' = g
  · rw [if_pos ⟨h, rfl⟩, if_pos h]
  · rw [if_neg (fun h' => h h'.1), if_neg h]

theorem bar_iff {a b : Dev nD} : barCell a = barCell b ↔ a = b := ⟨fun h => (dev_of h).1, fun h => h ▸ rfl⟩
theorem recv_iff {a b : Dev nD} {d e : Fin 16} : recvCell a d = recvCell b e ↔ a = b ∧ d = e :=
  ⟨fun h => ⟨(dev_of h).1, by
    have := congrArg Fin.val (SemLoc.dma.inj (dev_of h).2); rw [recvS_val, recvS_val] at this; exact Fin.ext (by omega)⟩,
   fun ⟨h, h'⟩ => by rw [h, h']⟩
theorem bar_ne_recv (a b : Dev nD) (d : Fin 16) : barCell a ≠ recvCell b d := fun h => by cases (dev_of h).2

theorem owedR_bar (d c : Dev nD) : ∀ l : List (Fin 16), owedR d l (barCell c) () = 0
  | [] => rfl
  | e :: l => by
    unfold owedR
    rw [Pi.add_apply, Finsupp.add_apply, owedR_bar d c l, tally_at, if_neg (bar_ne_recv _ _ _)]
theorem owedR_recv (d c : Dev nD) (e : Fin 16) : ∀ l : List (Fin 16), owedR d l (recvCell c e) () = if c = d + e then l.count e * N else 0
  | [] => by
    rw [List.count_nil, Nat.zero_mul, ite_self]; rfl
  | a :: l => by
    unfold owedR
    rw [Pi.add_apply, Finsupp.add_apply, owedR_recv d c e l, tally_at, List.count_cons]
    by_cases ha : a = e
    · subst ha
      by_cases hc : c = d + a
      · rw [if_pos hc, if_pos hc, if_pos (recv_iff.mpr ⟨hc, rfl⟩), if_pos (by simp), Nat.add_mul, Nat.one_mul]
      · rw [if_neg hc, if_neg hc, if_neg (fun h => hc (recv_iff.mp h).1)]
    · have hb : (a == e) = false := by simpa using ha
      rw [if_neg (fun h => ha (recv_iff.mp h).2.symm : ¬ recvCell c e = recvCell (d + a) a), hb, Nat.add_zero]
      rfl
theorem owedB_bar (d c : Dev nD) : ∀ l : List (Fin 16), owedB d l (barCell c) () = l.count (c - d)
  | [] => owedR_bar d c slots
  | a :: l => by
    unfold owedB
    rw [Pi.add_apply, Finsupp.add_apply, owedB_bar d c l, tally_at, List.count_cons]
    have h : (barCell c = barCell (d + a)) ↔ a = c - d := bar_iff.trans (by revert a c d; decide)
    by_cases ha : a = c - d
    · rw [if_pos (h.mpr ha), if_pos (by simpa using ha)]
    · rw [if_neg (fun h' => ha (h.mp h')), if_neg (by simpa using ha)]
theorem owedB_recv (d c : Dev nD) (e : Fin 16) : ∀ l : List (Fin 16), owedB d l (recvCell c e) () = if c = d + e then slots.count e * N else 0
  | [] => owedR_recv d c e slots
  | a :: l => by
    unfold owedB
    rw [Pi.add_apply, Finsupp.add_apply, owedB_recv d c e l, (tally_at _ _ _).trans (if_neg fun h => bar_ne_recv _ _ _ h.symm), Nat.add_zero]

theorem launch_bar (c : Dev nD) :
    tallyOn (barCell c) (launchCredit (Pipeline.owing O₀) 0 (barCell c)) = (tallyAt (barCell c) () 15 : CellTallies nD τ sig Unit) := by
  unfold tallyAt; refine congrArg _ (Finsupp.ext fun u => ?_); cases u
  rw [Pipeline.launchCredit_owing, Finsupp.single_eq_same]
  refine (Finset.sum_congr rfl fun d _ => owedB_bar d c slots).trans ?_
  revert c; decide
theorem launch_recv (c : Dev nD) (e : Sl) :
    tallyOn (recvCell c e.1) (launchCredit (Pipeline.owing O₀) 0 (recvCell c e.1)) = (tallyAt (recvCell c e.1) () N : CellTallies nD τ sig Unit) := by
  unfold tallyAt; refine congrArg _ (Finsupp.ext fun u => ?_); cases u
  rw [Pipeline.launchCredit_owing, Finsupp.single_eq_same]
  refine (Finset.sum_congr rfl fun d _ => owedB_recv d c e.1 slots).trans ?_
  have h1 : slots.count e.1 = 1 := by revert e; decide
  have h2 : ∀ d : Dev nD, (c = d + e.1) = (d = c - e.1) := fun d => propext (by have := e.1; generalize e.1 = e' at *; revert c d e'; decide)
  simp only [h1, h2, Nat.one_mul]
  rw [Finset.sum_ite_eq' Finset.univ (c - e.1) fun _ => N, if_pos (Finset.mem_univ _)]

theorem recv_sem_injective : Function.Injective (fun d : Sl => (SemLoc.dma (recvS d.1) : SemLoc sig)) := fun a b h => by
  have := congrArg Fin.val (SemLoc.dma.inj h); rw [recvS_val, recvS_val] at this; exact Subtype.ext (Fin.ext (by omega))

def recvEmb : Sl ↪ SemLoc sig := ⟨_, recv_sem_injective⟩

/-- The credit a device starts with: its barrier's fifteen units, and each receive's. -/
theorem creds (c : Dev nD) :
    (Pipeline.launchCred O₀ c : sProp 𝕄) ⊢ iprop(cred (tallyAt (barCell c) () 15) ∗ each (fun d => cred (tallyAt (recvCell c d) () N)) slots) := by
  unfold Pipeline.launchCred
  rw [bigSep_univ_at _ (SemLoc.reg barS), launch_bar, ← sl_each]
  have hsub : Finset.univ.map recvEmb ⊆ Finset.univ.erase (SemLoc.reg barS : SemLoc sig) := by
    intro s hs
    obtain ⟨d, _, hd⟩ := Finset.mem_map.mp hs
    exact Finset.mem_erase.mpr ⟨fun h => (by cases hd.trans h), Finset.mem_univ _⟩
  refine sep_mono_right ((bigSep_subset hsub).trans ?_)
  rw [bigSep_map]
  exact bigSep_mono fun d _ => Entails.of_eq (congrArg cred (launch_recv c d))

end Cert.BnSwish

end
-- ==== Proof.Run.lean ====
/-
# The run of the whole mesh

The pipeline's proof data — one point, one window (the projection) —, the body's obligation from `body_run`, and the launch
from any memory with zero counters: every execution ends with the arguments unchanged, the result of every device written as
`outOf` says, and every semaphore counter at zero.
-/
module

public import proofs.«01_k».proof.Proof.Body
public import proofs.«01_k».proof.Proof.Deal
public import Idealize.ShloMosaic.Lib.Pipeline.CollectiveSegs

@[expose] public section

noncomputable section

namespace Cert.BnSwish

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The contents -/

/-- Device `c`'s block of `x`, -/
def xOf (c : Dev nD) : S2x16384x64.Idx → Elt F .f32 := m ((c : Thread nD τ).loc main_arg0)
/-- the statistics each device computes of its block, -/
def stats (c : Dev nD) : S4x64.Idx → Elt F .f32 := stOf (xOf m c)
/-- the projection as staged, -/
def wOf (c : Dev nD) : S64x128.Idx → Elt F .f32 := (win0_0.blk (0 : Fin 1)).view.read (Elt F) (m ((c : Thread nD τ).loc main_arg1))
/-- and the result device `c` writes. -/
def resOf (c : Dev nD) : S2x16384x128.Idx → Elt F .bf16 := outOf (commFin (stats m) c) (wOf m c) (xOf m c)

/-! ## The proof data -/

/-- What the body starts from on device `c`, beside the scratches. -/
def start (c : Dev nD) : sProp 𝕄 :=
  iprop(G' (stats m) c ∗ cred (tallyAt (barCell c) () 15) ∗ each (fun d => cred (tallyAt (recvCell c d) () N)) slots ∗ levAts L lv
    ∗ (((c : Thread nD τ).loc main_arg0) ↦{fullShare} xOf m c)
    ∗ (∃ f : Buf (Elt F) ((c : Thread nD τ).loc main_v1), ((c : Thread nD τ).loc main_v1) ↦{fullShare} f))

def Φ₀ (c : Dev nD) : sProp 𝕄 :=
  iprop(start m c ∗ (∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))
/-- What it leaves: the argument, the result written, the scratches, every counter at zero. -/
def Φ₁ (c : Dev nD) : sProp 𝕄 :=
  iprop((((c : Thread nD τ).loc main_arg0) ↦{fullShare} xOf m c) ∗ (((c : Thread nD τ).loc main_v1) ↦{fullShare} resOf m c)
    ∗ ((∃ f : Buf (Elt F) ((c : Thread nD τ).loc cc0_scratch0), ((c : Thread nD τ).loc cc0_scratch0) ↦{fullShare} f)
      ∗ (∃ f : Buf (Elt F) ((c : Thread nD τ).loc cc0_scratch1), ((c : Thread nD τ).loc cc0_scratch1) ↦{fullShare} f)
      ∗ (∃ f : Buf (Elt F) ((c : Thread nD τ).loc cc0_scratch2), ((c : Thread nD τ).loc cc0_scratch2) ↦{fullShare} f))
    ∗ semVal (barCell c) 0 ∗ locals6 (F := F) c ∗ each (fun d => semVal (recvCell c d) 0) slots ∗ each (fun d => semVal (sendCell c d) 0) slots ∗ spare c)

def dats (_ : Fin 1) (c : Dev nD) : Dat τ (Elt F) Unit ℕ UU ℕ cfg0 c where
  A w := m ((cfg0.win w).arr.view.loc (c : Thread nD τ))
  after w _ := match w with
    | ⟨0, _⟩ => wOf m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## The body's obligation -/

def negSl : Sl ≃ Sl := ⟨fun d => ⟨-d.1, neg_ne d.1 d.2⟩, fun d => ⟨-d.1, neg_ne d.1 d.2⟩, by decide, by decide⟩
/-- The slots, listed the other way round. -/
theorem each_neg (Φ : Fin 16 → sProp 𝕄) : each (fun d => Φ (-d)) slots = each Φ slots := by
  rw [← sl_each, ← sl_each, bigSep_univ_equiv negSl (fun d : Sl => Φ d.1)]
  rfl

/-- The counters of the device's own copies, one by one. -/
theorem locals_eq (c : Dev nD) : locals6 (F := F) c = locals (F := F) c := by
  unfold locals6 locals
  rw [bigSep_univ_eq_bigSepL [0, 1, 2, 3, 4, 5] (by decide) (by decide)]
  rfl

/-- What the launch leaves device `c` is what `body_run` starts from. -/
theorem kits (c : Dev nD) :
    iprop(G' (stats m) c ∗ cred (tallyAt (barCell c) () 15) ∗ each (fun d => cred (tallyAt (recvCell c d) () N)) slots
        ∗ (∃ f : Buf (Elt F) ((c : Thread nD τ).loc cc0_scratch2), ((c : Thread nD τ).loc cc0_scratch2) ↦{fullShare} f))
      ⊢ iprop(each (kitB (stats m) c) slots ∗ kitBar (stats m) c ∗ each (kitS (stats m) c) slots ∗ each (kitV (stats m) c) slots ∗ each (kitW (stats m) c) slots
        ∗ (∃ f, slotPts (F := F) c 0 fullShare f) ∗ locals (F := F) c ∗ spare c) := by
  unfold G'
  iintro ⟨⟨HG, HS, HB, HV, HW, HL, Hsp⟩, HcB, HcV, ⟨%f, Hf⟩⟩
  ihave Hf' := (Entails.of_eq (show ((((c : Thread nD τ).loc cc0_scratch2) ↦{fullShare} f : sProp 𝕄)) = iprop(slotPts c 0 fullShare f ∗ each (fun d => slotPts c d fullShare f) slots) from comm_eq c fullShare f)) $$ Hf
  icases Hf' with ⟨H0, Hsl⟩
  isplitl [HG Hsl]
  · iapply ((each_unsep (kitG (stats m) c) (fun d => iprop(∃ f, slotPts (F := F) c (-d) fullShare f)) slots).trans (each_mono (fun d => by
      unfold kitG kitB
      iintro ⟨⟨H1, H2, H3, H4⟩, H5⟩
      isplitl [H1]; · iexact H1
      isplitl [H2]; · iexact H2
      isplitl [H3]; · iexact H3
      isplitl [H4]; · iexact H4
      iexact H5) slots))
    isplitl [HG]; · iexact HG
    rw [each_neg (fun d => iprop(∃ f, slotPts (F := F) c d fullShare f))]
    iapply (each_mono (fun d => show slotPts (F := F) c d fullShare f ⊢ iprop(∃ f, slotPts (F := F) c d fullShare f) from by
      iintro H; iexists f; iexact H) slots)
    iexact Hsl
  isplitl [HB HcB]
  · unfold kitP kitBar
    icases HB with ⟨H1, H2⟩
    isplitl [H1]; · iexact H1
    isplitl [H2] <;> iassumption
  isplitl [HS]; · iexact HS
  isplitl [HV HcV]
  · iapply ((each_unsep (fun d => kitP (stats m) c (recvCell c d)) (fun d => (cred (tallyAt (recvCell c d) () N) : sProp 𝕄)) slots).trans (each_mono (fun d => by
      unfold kitP kitV
      iintro ⟨⟨H1, H2⟩, H3⟩
      isplitl [H1]; · iexact H1
      isplitl [H2] <;> iassumption) slots))
    isplitl [HV] <;> iassumption
  isplitl [HW]; · iexact HW
  isplitl [H0]; · iexists f; iexact H0
  isplitl [HL]; · iapply (Entails.of_eq (locals_eq (F := F) c)); iexact HL
  iexact Hsp

/-- The body's obligation, its conjuncts named. -/
def bodyPre (c : Dev nD) : sProp 𝕄 :=
  iprop(Φ₀ m c ∗ (dats m 0 c).owesAt () t0_0.castSucc ∗ (∃ d, stg c cc0_stg0_0 ((dats m 0 c).before (0 : Fin 1) t0_0 d)))
def bodyPost (c : Dev nD) : sProp 𝕄 :=
  iprop(Φ₁ m c ∗ (dats m 0 c).owesAt () t0_0.succ ∗ stg c cc0_stg0_0 (wOf m c))

theorem sound (c : Dev nD) :
    bodyPre m c ⊢ wp frame (wpE (defs₀ (F := F)) 𝒱₀ (c : Thread nD τ) none) Set.univ
      (cc0_body (Memref.whole main_arg0) (Memref.isWhole_whole _) (Memref.whole cc0_stg0_0) (Memref.isWhole_whole _) (Memref.whole main_v1) (Memref.isWhole_whole _)
        (Memref.whole cc0_scratch0) (Memref.isWhole_whole _) (Memref.whole cc0_scratch1) (Memref.isWhole_whole _)
        (Memref.whole cc0_scratch2) (Memref.isWhole_whole _) cc0_scratch3 cc0_scratch4 cc0_scratch5 cc0_scratch6) (fun _ => bodyPost m c) := by
  have hb : ∀ d, (dats m 0 c).before (0 : Fin 1) t0_0 d = wOf m c := fun d => by
    unfold Dat.before; rw [if_pos (fetch0_0 t0_0)]; rfl
  unfold bodyPre Φ₀ start Dat.owesAt Pipeline.owesWithin
  rw [show (dats m 0 c).owed t0_0.castSucc = O₀ c from rfl]
  iintro ⟨⟨⟨HG, HcB, HcV, Hlev, Hx, Ho⟩, Hb, Ha, Hc⟩, ⟨%W, %hW, HO⟩, ⟨%d, %w, %hw, Hw⟩⟩
  obtain rfl : w = wOf m c := hw.trans (hb d)
  ihave Hk := (kits m c) $$ [HG HcB HcV Hc]
  · isplitl [HG]; · iexact HG
    isplitl [HcB]; · iexact HcB
    isplitl [HcV] <;> iassumption
  icases Hk with ⟨HkB, HkBar, HkS, HkV, HkW, Hs0, HL, Hsp⟩
  iapply (body_run (stats m) c (fun _ => bodyPost m c) (xOf m c) (wOf m c) rfl)
  isplitl [HO HkB]
  · unfold atSignal debt
    isplitl [HO]; · iexists W; iexact HO
    iexact HkB
  isplitl [Hlev]; · iexact Hlev
  isplitl [HkBar]; · iexact HkBar
  isplitl [HkS]; · iexact HkS
  isplitl [HkV]; · iexact HkV
  isplitl [HkW]; · iexact HkW
  isplitl [Hx Ho Hb Ha Hw]
  · unfold bufs
    isplitl [Hx]; · iexact Hx
    isplitl [Ho]; · iexact Ho
    isplitl [Hb]; · iexact Hb
    isplitl [Ha]; · iexact Ha
    iexact Hw
  isplitl [Hs0]; · iexact Hs0
  isplitl [HL]; · iexact HL
  unfold bodyEnd debt
  iintro ⟨⟨%W', HO⟩, Hx, Ho, Hb, Ha, Hw, Hc, HzB, HL, HzV, HzS⟩
  unfold bodyPost Φ₁ Dat.owesAt Pipeline.owesWithin
  rw [show (dats m 0 c).owed t0_0.succ = 0 from rfl, locals_eq]
  isplitr [HO Hw]
  · isplitl [Hx]; · iexact Hx
    isplitl [Ho]; · iexact Ho
    isplitl [Hb Ha Hc]
    · isplitl [Hb]; · iexact Hb
      isplitl [Ha]; · iexact Ha
      iexists (commFin (stats m) c); unfold commPts; iexact Hc
    isplitl [HzB]; · iexact HzB
    isplitl [HL]; · iexact HL
    isplitl [HzV]; · iexact HzV
    isplitl [HzS] <;> iassumption
  isplitl [HO]
  · iexists W'
    isplitr; · ipureintro; exact fun _ _ => Or.inl trivial
    iexact HO
  iexists _; isplitr; · (ipureintro; rfl)
  iexact Hw

set_option maxRecDepth 40000 in
/-- The library's body obligation on device `c`. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  exact sound m c

/-! ## The launch's side conditions -/

theorem ownSemFacts : Pipeline.OwnSemFacts cfg0.spec osem := by decide
theorem share_eq (c : Dev nD) (w : Fin cfg0.W) : (dats m 0 c).share w = fullShare := by unfold Dat.share; split <;> rfl

def u₀ : UU := (initOf (Pipeline.cells cfgs cellOf_inj) (Pipeline.launchToks cfgs cellOf_inj), (initOf ownCells ownToks, 1))

theorem fund : (ownU u₀ : sProp 𝕄)
    ⊢ |={Set.univ}=> iprop(BI.own (EP (initOf (Pipeline.cells cfgs cellOf_inj) (Pipeline.launchToks cfgs cellOf_inj))) ∗ bigSep Finset.univ (G (stats m))) := by
  unfold u₀
  iintro Hu
  ihave H := (ownU_pair _ _) $$ Hu
  icases H with ⟨HP, HX⟩
  ihave H' := (own_pair_emb embR _ _) $$ HX
  icases H' with ⟨HX, -⟩
  imod ((show _ ⊢ _ from fund_own (stats m))) $$ [HX] with HG
  · unfold ER; iexact HX
  imodintro
  isplitl [HP] <;> iassumption

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' (stats m) c)
      ⊢ |={Set.univ}=> iprop(start m c ∗ emp) := by
  rw [Pipeline.unscopedRestP_none, show (Pipeline.unscopedRest (Ix := Unit) (Name := ℕ) (U := UU) (Lvl := ℕ) cfg0.spec c (fun b => m ((c : Thread nD τ).loc b)) : sProp 𝕄) = _ from unscopedRest0_eq c _]
  iintro ⟨⟨Hx, Ho⟩, Hlev, Hcr, -, HG⟩
  ihave Hc := (creds (F := F) c) $$ Hcr
  icases Hc with ⟨H1, HN⟩
  imodintro
  unfold start
  isplitl
  · isplitl [HG]; · iexact HG
    isplitl [H1]; · iexact H1
    isplitl [HN]; · iexact HN
    isplitl [Hlev]; · iexact Hlev
    isplitl [Hx]; · iexact Hx
    iexists _; iexact Ho
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest (Ix := Unit) (Name := ℕ) (U := UU) (Lvl := ℕ) (Val := Elt F) cfg0.spec c : sProp 𝕄) = _ from scopedRest0_eq c]
  unfold Φ₀
  iintro ⟨Hs, -, Hr⟩
  isplitl [Hs] <;> iassumption

/-- What the continuation is handed: the argument and the result, and the barrier's counter. -/
def final (c : Dev nD) : sProp 𝕄 :=
  iprop((((c : Thread nD τ).loc main_arg0) ↦{fullShare} xOf m c) ∗ (((c : Thread nD τ).loc main_v1) ↦{fullShare} resOf m c) ∗ unscopedSems0 c)

theorem phi1_exit (c : Dev nD) :
    (dats m 0 c).Φ (Fin.last cfg0.N) ⊢ iprop(final m c ∗ Pipeline.ownSems0 osem c ∗ Pipeline.scopedRest cfg0.spec c) := by
  rw [show (dats m 0 c).Φ (Fin.last cfg0.N) = Φ₁ m c from rfl, show (Pipeline.scopedRest (Ix := Unit) (Name := ℕ) (U := UU) (Lvl := ℕ) (Val := Elt F) cfg0.spec c : sProp 𝕄) = _ from scopedRest0_eq c, ownSems0_eq]
  unfold Φ₁ final spare
  rw [unscopedSems0_eq]
  iintro ⟨Hx, Ho, Hr, HzB, HL, HzV, HzS, Hs0, Hv0⟩
  isplitl [Hx Ho HzB]
  · isplitl [Hx]; · iexact Hx
    isplitl [Ho] <;> iassumption
  isplitr [Hr]
  · isplitl [HL]; · iexact HL
    isplitl [Hs0 HzS]
    · isplitl [Hs0] <;> iassumption
    isplitl [Hv0] <;> iassumption
  iexact Hr

theorem stage_level (w : Fin cfg0.W) (s) : lvS (.dma ((cfg0.win w).sem s)) = 0 := by
  fin_cases w; fin_cases s <;> decide

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_start c _ (stage_level w s) slots
    · show _ ⊢ MayWait (c : Thread nD τ) _ () 0
      rw [MayWait_zero]; iintro -; iempintro

/-- What is read of a device's final state: the argument and the result, and the unscoped counters. -/
def QY (c : Dev nD) (s : MemSt nD τ sig (Elt F)) : Prop :=
  (s.mem ((c : Thread nD τ).loc main_arg0) = xOf m c ∧ s.mem ((c : Thread nD τ).loc main_v1) = resOf m c)
    ∧ ∀ sm : SemLoc sig, sm.isScoped .tc = false → s.sem ((c.tc : Thread nD τ), sm) = 0

theorem one_read (ℓ : Loc nD τ sig) (f : Buf (Elt F) ℓ) (s' : Phys nD τ sig (Elt F)) :
    iprop((ℓ ↦{fullShare} f : sProp 𝕄) ∗ SI s') ⊢ iprop(⌜s'.mem.mem ℓ = f⌝ ∗ SI s') := by
  have h := pointsTo_read_all (Ix := Unit) (Name := ℕ) (U := UU) (Lvl := ℕ) ({()} : Finset Unit) (fun _ => ℓ) (fun _ => f) s'
  rw [bigSep_singleton] at h
  exact h.trans (sep_mono_left (BI.pure_mono fun h => h () (Finset.mem_singleton_self _)))

theorem final_read (c : Dev nD) (s' : Phys nD τ sig (Elt F)) :
    iprop(final m c ∗ emp ∗ SI s') ⊢ |={Set.univ}=> iprop(⌜QY m c s'.mem⌝ ∗ SI s') := by
  unfold final
  iintro ⟨⟨Hx, Ho, Hu⟩, -, HSI⟩
  ihave H1 := (one_read _ _ s') $$ [Hx HSI]
  · isplitl [Hx] <;> iassumption
  icases H1 with ⟨%h1, HSI⟩
  ihave H2 := (one_read _ _ s') $$ [Ho HSI]
  · isplitl [Ho] <;> iassumption
  icases H2 with ⟨%h2, HSI⟩
  imod (Pipeline.unscopedSems0_read (X := unscopedSems0 c) (c := c) fupd_intro s') $$ [Hu HSI] with ⟨%h3, HSI⟩
  · isplitl [Hu] <;> iassumption
  imodintro
  isplitr
  · ipureintro; exact ⟨⟨h1, h2⟩, h3⟩
  iexact HSI

/-! ## The run -/

/-- The contents of device `c` in a final state: the arguments as launched, the result written. -/
def Ends (s : MemSt nD τ sig (Elt F)) : Prop :=
  ∀ c : Dev nD, s.mem ((c : Thread nD τ).loc main_arg0) = m ((c : Thread nD τ).loc main_arg0)
    ∧ s.mem ((c : Thread nD τ).loc main_arg1) = m ((c : Thread nD τ).loc main_arg1)
    ∧ s.mem ((c : Thread nD τ).loc main_v1) = resOf m c

set_option maxRecDepth 8000 in
/-- On the mesh of sixteen devices, for any float values, from any memory with zero counters: every weakly fair execution of
@main terminates, and every final state has each device's result at the computed contents, the arguments unchanged and
every semaphore counter at zero. -/
theorem run_main : θ_run defs (onTc (τ := τ) (main (F := F))) ⟨m, fun _ => 0, ρ⟩ (fun r => Ends m r.2 ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := fun c => (body_obligation m c).loose) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G (stats m)) (G' := G' (stats m)) (u₀ := u₀)
    (hu₀ := fund m)
    (hglob := glob (stats m))
    (hA := fun _ _ => rfl) (hpf := fun _ k => k.elim0)
    (X := start m) (Y := final m) (Z := fun _ => iprop(emp))
    (hX := start_intro m ρ) (hin := phi0_intro m) (hout := phi1_exit m)
    (QY := QY m)
    (hY := final_read m)
    (hQ := fun s h hs => ⟨fun c => ⟨(h c).2.2.1.1, ((h c).1 0).trans ((dats (F := F) m 0 c).arrAt_in (0 : Fin 1) rfl _), (h c).2.2.1.2⟩,
      sem_eq_zero hs fun c => (h c).2.2.2⟩)

end Cert.BnSwish

end
-- ==== Proof.Frames.lean ====
/-
# The frames

From the run of the mesh, for the kernel as compiled and for its ideal reading, and from the run of the reference.
-/
module

public import proofs.«01_k».proof.Defs
public import proofs.«01_k».proof.Proof.Gen.Kernel
public import proofs.«01_k».proof.Proof.Gen.ReferenceIdeal.Run
public import proofs.«01_k».proof.Proof.Run

@[expose] public section

noncomputable section

namespace Cert.BnSwish

open Idealize.ShloMosaic
open Idealize.SL.Sem

/-- The shape facts the precondition's text states, on a device's block, -/
theorem pre_facts : Cert.Pre_finite_KernelIdeal.Facts where
  bcast_S_S2x16384x64 := by decide
  reducesTo_S2x16384x64_S_d0_1_2 := by decide
  h_S_ := by decide

/-- and on the whole array. -/
theorem pre_facts_ref : Cert.Pre_finite_ReferenceIdeal.Facts where
  bcast_S_S2x262144x64 := by decide
  reducesTo_S2x262144x64_S_d0_1_2 := by decide
  h_S_ := by decide

/-- The two printed texts have the same body table, -/
theorem same_body : Cert.Kernel.defs₀ (F := Bits) = Cert.KernelIdeal.defs₀ (F := Bits) := by
  unfold Cert.Kernel.defs₀ Cert.KernelIdeal.defs₀
  refine congrArg Defs.onTc ?_
  funext l a
  match l, a with
  | 0, (t, s) => exact rfl
  | ⟨_ + 1, h⟩, _ => exact absurd h (Nat.not_lt.2 (Nat.le_add_left _ _))

/-- and so the same table with the pipeline. -/
theorem same_defs : Cert.Kernel.defs (F := Bits) = Cert.KernelIdeal.defs (F := Bits) :=
  congrArg (Pipeline.defs Cert.KernelIdeal.pcfgs) same_body

/-- The kernel as compiled runs, leaves its arguments as they were and every counter at zero. -/
theorem frame_kernel : Cert.quiescent_Kernel := by
  intro m ρ _
  rw [same_defs]
  exact (θ_run Cert.KernelIdeal.defs _ _).mono (Q := fun r => Ends m r.2 ∧ r.2.sem = fun _ => 0)
    (fun _ h => ⟨fun c => ⟨(h.1 c).1, (h.1 c).2.1⟩, h.2⟩) (run_main (F := Bits) m ρ)

/-- So does its ideal reading. -/
theorem frame_ideal : Cert.quiescent_KernelIdeal := fun m ρ _ =>
  (θ_run Cert.KernelIdeal.defs _ _).mono (fun _ h => ⟨fun c => ⟨(h.1 c).1, (h.1 c).2.1⟩, h.2⟩) (run_main (F := Ideal) m ρ)

/-- The reference runs and leaves its arguments as they were; it declares no semaphore. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.BnSwish

end
-- ==== Proof.Scalar.lean ====
/-
# One element over the reals

What the kernel computes of one element, from the sum and the sum of squares of its channel, and what the reference computes
of it, from the mean and the mean of the squared deviations. For a channel of real numbers they are the same.
-/
module

public import Idealize.ShloMosaic.Lib.IdealHost

@[expose] public section

noncomputable section

namespace Cert.BnSwish

open Idealize.ShloMosaic

/-! ## The constants -/

/-- The number of rows of the batch, 262144. -/
abbrev cN : EReal := Ideal.ofBits .f32 0x48800000#32
/-- The small number added to the variance. -/
abbrev cEps : EReal := Ideal.ofBits .f32 0x3727C5AC#32
/-- One half, as a bf16 word. -/
abbrev cHalf : EReal := Ideal.ofBits .bf16 0x3F00#16

theorem cN_eq : cN = ((262144 : ℝ) : EReal) := by
  simp [Ideal.ofBits, Ideal.ieee, -EReal.coe_mul]
  norm_num

theorem cHalf_eq : cHalf = ((1 / 2 : ℝ) : EReal) := by
  simp [Ideal.ofBits, Ideal.ieee, -EReal.coe_mul]
  norm_num

/-- The small number is a positive real. -/
theorem cEps_pos : ∃ e : ℝ, 0 < e ∧ cEps = (e : EReal) := by
  refine ⟨10995116 * (2 : ℝ) ^ (-40 : ℤ), by positivity, ?_⟩
  simp [Ideal.ofBits, Ideal.ieee, -EReal.coe_mul]

/-! ## The two computations -/

/-- The mean of a channel, from its sum. -/
def meanOf (S : EReal) : EReal := Ideal.div S cN
/-- The kernel's scale: one over the square root of the mean of the squares less the square of the mean. -/
def invOf (S Q : EReal) : EReal := Ideal.rsqrt (Ideal.div Q cN - meanOf S * meanOf S + cEps)
/-- The kernel's shift. -/
def shiftOf (S Q : EReal) : EReal := (0 - meanOf S) * invOf S Q
/-- The kernel's activation. -/
def swish (h : EReal) : EReal := cHalf * h * (Ideal.tanh (cHalf * h) + 1)
/-- What the kernel makes of an element of a channel with sum `S` and sum of squares `Q`. -/
def kact (x S Q : EReal) : EReal := swish (x * invOf S Q + shiftOf S Q)

/-- The reference's normalized element, from the sum `S` and the sum `V` of the squared deviations. -/
def rnorm (x S V : EReal) : EReal := Ideal.div (x - meanOf S) (Ideal.sqrt (Ideal.div V cN + cEps))
/-- What the reference makes of it. -/
def ract (x S V : EReal) : EReal := Ideal.div (rnorm x S V) (1 + Ideal.exp (-(rnorm x S V)))

/-! ## They agree -/

/-- A sum of reals, taken among the extended reals. -/
theorem coe_sum {ι : Type} (s : Finset ι) (f : ι → ℝ) : ∑ i ∈ s, (f i : EReal) = ((∑ i ∈ s, f i : ℝ) : EReal) := by
  classical
  induction s using Finset.induction_on with
  | empty => simp
  | insert a s h ih => rw [Finset.sum_insert h, Finset.sum_insert h, ih, EReal.coe_add]

theorem coe_div (a b : ℝ) (h : b ≠ 0) : Ideal.div (a : EReal) (b : EReal) = ((a / b : ℝ) : EReal) := by
  rw [Ideal.div_coe h, ← EReal.coe_mul, mul_one_div]

/-- The mean of the squared deviations from the mean is the mean of the squares less the square of the mean. -/
theorem variance (n : ℕ) (hn : 0 < n) (f : Fin n → ℝ) :
    (∑ i, (f i - (∑ i, f i) / n) * (f i - (∑ i, f i) / n)) / n
      = (∑ i, f i * f i) / n - (∑ i, f i) / n * ((∑ i, f i) / n) := by
  have h0 : (n : ℝ) ≠ 0 := by positivity
  generalize hμ : (∑ i, f i) / n = μ
  have hs : ∑ i, f i = n * μ := by rw [← hμ]; field_simp
  have : ∑ i, (f i - μ) * (f i - μ) = (∑ i, f i * f i) - n * (μ * μ) := by
    have e : ∀ i, (f i - μ) * (f i - μ) = f i * f i - 2 * μ * f i + μ * μ := fun i => by ring
    simp only [e, Finset.sum_add_distrib, Finset.sum_sub_distrib, ← Finset.mul_sum, hs, Finset.sum_const, Finset.card_univ,
      Fintype.card_fin, nsmul_eq_mul]
    ring
  rw [this]
  field_simp

/-- `h/2 · (tanh (h/2) + 1)` is `h / (1 + exp (−h))`. -/
theorem half_tanh (h : ℝ) : 1 / 2 * h * (Real.tanh (1 / 2 * h) + 1) = h / (1 + Real.exp (-h)) := by
  have e1 : Real.exp (1 / 2 * h) ≠ 0 := Real.exp_ne_zero _
  have e2 : Real.exp (-h) = Real.exp (-(1 / 2 * h)) * Real.exp (-(1 / 2 * h)) := by
    rw [← Real.exp_add]
    congr 1
    ring
  have e3 : Real.exp (-(1 / 2 * h)) = (Real.exp (1 / 2 * h))⁻¹ := Real.exp_neg _
  have e4 : 0 < Real.exp (1 / 2 * h) := Real.exp_pos _
  rw [Real.tanh_eq_sinh_div_cosh, Real.sinh_eq, Real.cosh_eq, e2, e3]
  generalize Real.exp (1 / 2 * h) = y at *
  field_simp
  ring

/-- **One element.** For a channel of real numbers the kernel and the reference make the same of each element. -/
theorem kact_eq_ract (f : Fin 262144 → ℝ) (x : ℝ) :
    kact x (∑ i, (f i : EReal)) (∑ i, (f i : EReal) * (f i : EReal))
      = ract x (∑ i, (f i : EReal))
          (∑ i, ((f i : EReal) - meanOf (∑ i, (f i : EReal))) * ((f i : EReal) - meanOf (∑ i, (f i : EReal)))) := by
  obtain ⟨e, he, hE⟩ := cEps_pos
  have hS : ∑ i, (f i : EReal) = ((∑ i, f i : ℝ) : EReal) := coe_sum _ _
  have hM : meanOf (∑ i, (f i : EReal)) = (((∑ i, f i) / 262144 : ℝ) : EReal) := by
    unfold meanOf
    rw [hS, cN_eq, coe_div _ _ (by norm_num)]
  have hQ : ∑ i, (f i : EReal) * (f i : EReal) = ((∑ i, f i * f i : ℝ) : EReal) := by
    simp only [← EReal.coe_mul]
    exact coe_sum _ _
  have hv := variance 262144 (by norm_num) f
  have hv0 : 0 ≤ (∑ i, (f i - (∑ i, f i) / ((262144 : ℕ) : ℝ)) * (f i - (∑ i, f i) / ((262144 : ℕ) : ℝ))) / ((262144 : ℕ) : ℝ) :=
    div_nonneg (Finset.sum_nonneg fun i _ => mul_self_nonneg _) (by positivity)
  push_cast at hv hv0
  unfold kact ract rnorm swish shiftOf invOf
  rw [hM, hQ, hE, cN_eq, cHalf_eq]
  simp only [← EReal.coe_sub, ← EReal.coe_mul]
  rw [coe_sum, coe_div _ _ (by norm_num), coe_div _ _ (by norm_num), ← EReal.coe_sub, hv]
  rw [hv] at hv0
  generalize (∑ i, f i * f i) / 262144 - (∑ i, f i) / 262144 * ((∑ i, f i) / 262144) = v at *
  generalize (∑ i, f i) / 262144 = μ at *
  have hp : 0 < v + e := by linarith
  have hr : Real.sqrt (v + e) ≠ 0 := (Real.sqrt_pos.mpr hp).ne'
  rw [← EReal.coe_add, Ideal.rsqrt_coe, Ideal.sqrt_coe, if_neg (not_lt.mpr hp.le), if_neg hp.ne', if_neg (not_lt.mpr hp.le),
    coe_div _ _ hr]
  have hz : (0 : EReal) = ((0 : ℝ) : EReal) := rfl
  have ho : (1 : EReal) = ((1 : ℝ) : EReal) := rfl
  have hn : (x * (Real.sqrt (v + e))⁻¹ + (0 - μ) * (Real.sqrt (v + e))⁻¹ : ℝ) = (x - μ) / Real.sqrt (v + e) := by
    field_simp
    ring
  rw [hz, ho]
  simp only [← EReal.coe_sub, ← EReal.coe_mul, ← EReal.coe_add, ← EReal.coe_neg, Ideal.tanh_coe, Ideal.exp_coe]
  rw [coe_div _ _ (by positivity), hn, half_tanh]

end Cert.BnSwish

end
-- ==== Proof.Sums.lean ====
/-
# The kernel's values at an index, over the extended reals

The statistics a device sends are sums over its rows; the gathered statistics add up to the sums over the whole batch; an
element of the result is the activation's row times the projection's column.
-/
module

public import proofs.«01_k».proof.Proof.Values
public import proofs.«01_k».proof.Proof.Scalar
public import Idealize.ShloMosaic.Lib.MatmulPlain
public import Idealize.ShloMosaic.Lib.ValueLayout

@[expose] public section

noncomputable section

namespace Cert.BnSwish

open Cert.KernelIdeal Cert.KernelIdeal.Gen

open Idealize.ShloMosaic
open Idealize.ShloMosaic.ValueIdx

/-- The sum of a chunk's rows, in batch entry `b` and channel `j`. -/
def rows (x : Vec Ideal S2x4096x64 .f32) (b : Fin 2) (j : Fin 64) : EReal := ∑ r : Fin 4096, x (ix3 b r j)

/-- The row of ones times batch entry `b` of a chunk. -/
abbrev onesDot (b : Fin 2) (hs : S2x4096x64.Slices ![b.val, 0, 0] S1x4096x64) (x : Vec Ideal S2x4096x64 .f32) : FVec Ideal S1x64 .f32 :=
  matmul (F := Ideal) (φ₁ := .f32) (φ₂ := .f32) dot_S1x4096_S4096x64_S1x64_1_0_0_1_n_n none k0_pay1
    (shapeCast S4096x64 (extractStridedSlice S1x4096x64 ![b.val, 0, 0] x hs) shapeCasts_S1x4096x64_S4096x64)
    (constant S1x64 .f32 0x00000000#32)

/-- Batch entry `b` of an array of two, its leading axis dropped, read at an index. -/
theorem entry_apply {n : ℕ} {α : Type} (b : Fin 2) (hs : (⟨3, ![2, 4096, n]⟩ : Shape).Slices ![b.val, 0, 0] ⟨3, ![1, 4096, n]⟩)
    (hc : (⟨3, ![1, 4096, n]⟩ : Shape).ShapeCasts ⟨2, ![4096, n]⟩)
    (x : (⟨3, ![2, 4096, n]⟩ : Shape).Idx → α) (r : Fin 4096) (j : Fin n) :
    shapeCast ⟨2, ![4096, n]⟩ (extractStridedSlice ⟨3, ![1, 4096, n]⟩ ![b.val, 0, 0] x hs) hc (ix2 r j) = x (ix3 b r j) := by
  refine (shapeCast_1ab_ab_apply (a := 4096) (b := n) _ _ r j).trans ?_
  refine extractStridedSlice_apply (s := ⟨3, ![2, 4096, n]⟩) (t := ⟨3, ![1, 4096, n]⟩) ![b.val, 0, 0] x hs (ix3 0 r j) (ix3 b r j) fun a => ?_
  match a with
  | ⟨0, _⟩ => rfl
  | ⟨1, _⟩ => exact (Nat.zero_add _).symm
  | ⟨2, _⟩ => exact (Nat.zero_add _).symm

/-- It is the sum of the rows. -/
theorem ones_dot (b : Fin 2) (hs : S2x4096x64.Slices ![b.val, 0, 0] S1x4096x64) (x : Vec Ideal S2x4096x64 .f32) (j : Fin 64) :
    onesDot b hs x (ix2 0 j) = rows x b j := by
  refine (Ideal.matmul_plain_apply (M := 1) (K := 4096) (N := 64) (φ₁ := .f32) (φ₂ := .f32) none _ _ _ 0 j).trans ?_
  have h0 : (constant (F := Ideal) S1x64 .f32 0x00000000#32) (ix2 0 j) = 0 := Ideal.ofBits_zero_f32
  rw [h0, zero_add]
  refine Finset.sum_congr rfl fun r _ => ?_
  have h1 : (k0_pay1 (F := Ideal)) (ix2 0 r) = 1 := Ideal.ofBits_one_f32
  rw [h1, one_mul]
  exact entry_apply b hs _ x r j

/-- Four of them added onto a zero. -/
theorem ones_dot4 (b : Fin 2) (hs : S2x4096x64.Slices ![b.val, 0, 0] S1x4096x64) (x0 x1 x2 x3 : Vec Ideal S2x4096x64 .f32) (j : Fin 64) :
    Ideal.ofBits .f32 0x00000000#32 + onesDot b hs x0 (ix2 0 j) + onesDot b hs x1 (ix2 0 j) + onesDot b hs x2 (ix2 0 j) + onesDot b hs x3 (ix2 0 j)
      = rows x0 b j + rows x1 b j + rows x2 b j + rows x3 b j := by
  rw [ones_dot, ones_dot, ones_dot, ones_dot, Ideal.ofBits_zero_f32, zero_add]

/-- Two rows stacked, read at a row. -/
theorem stacked (u v : FVec Ideal S1x64 .f32) (b : Fin 2) (j : Fin 64) :
    shapeCast S1x2x64 (concatenate S2x64 0 [⟨S1x64, u⟩, ⟨S1x64, v⟩] concatenates_S1x64_S1x64_S2x64_d0) shapeCasts_S2x64_S1x2x64 (ix3 0 b j)
      = if b = 0 then u (ix2 0 j) else v (ix2 0 j) := by
  refine (shapeCast_ab_1ab_apply (a := 2) (b := 64) _ _ 0 b j).trans ?_
  split
  · next h =>
    subst h
    exact concatenate_pair_apply_left (t := S2x64) (s₁ := S1x64) (s₂ := S1x64) 0 u v _ (ix2 0 j) rfl (ix2 0 j) fun a =>
      match a with | ⟨0, _⟩ => rfl | ⟨1, _⟩ => rfl
  · next h =>
    obtain rfl : b = 1 := by omega
    exact concatenate_pair_apply_right (t := S2x64) (s₁ := S1x64) (s₂ := S1x64) 0 u v _ (ix2 1 j) rfl rfl (ix2 0 j)
      (fun a h => match a with | ⟨0, _⟩ => absurd rfl h | ⟨1, _⟩ => rfl) rfl

/-- A chunk's squares. -/
def sq (x : Vec Ideal S2x4096x64 .f32) : Vec Ideal S2x4096x64 .f32 := fun i => x i * x i

/-- The sums a device makes are those of its four chunks' rows. -/
theorem sumOf_apply (x0 x1 x2 x3 : Vec Ideal S2x4096x64 .f32) (b : Fin 2) (j : Fin 64) :
    sumOf x0 x1 x2 x3 (ix3 0 b j) = rows x0 b j + rows x1 b j + rows x2 b j + rows x3 b j := by
  unfold sumOf k0_pay15
  refine (stacked _ _ b j).trans ?_
  match b with
  | ⟨0, _⟩ => exact (if_pos rfl).trans (ones_dot4 0 slices_S2x4096x64_o0_0_0_S1x4096x64 x0 x1 x2 x3 j)
  | ⟨1, _⟩ => exact (if_neg Fin.zero_ne_one.symm).trans (ones_dot4 1 slices_S2x4096x64_o1_0_0_S1x4096x64 x0 x1 x2 x3 j)

/-- The sums of squares a device makes are those of its four chunks' rows. -/
theorem sqOf_apply (x0 x1 x2 x3 : Vec Ideal S2x4096x64 .f32) (b : Fin 2) (j : Fin 64) :
    sqOf x0 x1 x2 x3 (ix3 0 b j) = rows (sq x0) b j + rows (sq x1) b j + rows (sq x2) b j + rows (sq x3) b j := by
  unfold sqOf k0_pay16
  refine (stacked _ _ b j).trans ?_
  match b with
  | ⟨0, _⟩ => exact (if_pos rfl).trans (ones_dot4 0 slices_S2x4096x64_o0_0_0_S1x4096x64 (sq x0) (sq x1) (sq x2) (sq x3) j)
  | ⟨1, _⟩ => exact (if_neg Fin.zero_ne_one.symm).trans (ones_dot4 1 slices_S2x4096x64_o1_0_0_S1x4096x64 (sq x0) (sq x1) (sq x2) (sq x3) j)

/-! ## The statistics a device sends, as sums over its rows -/

/-- Row `i` of a device's block, in batch entry `b` and channel `j`. -/
def rowAt (xv : S2x16384x64.Idx → EReal) (b : Fin 2) (j : Fin 64) (i : Fin 16384) : EReal := xv (ix3 b i j)

/-- A sum over 16384 rows is the sum of its four quarters. -/
theorem quarters (f : Fin 16384 → EReal) :
    ∑ i, f i = (∑ r : Fin 4096, f ⟨4096 * 0 + r.val, by omega⟩) + (∑ r : Fin 4096, f ⟨4096 * 1 + r.val, by omega⟩)
      + (∑ r : Fin 4096, f ⟨4096 * 2 + r.val, by omega⟩) + ∑ r : Fin 4096, f ⟨4096 * 3 + r.val, by omega⟩ := by
  rw [← Equiv.sum_comp (finProdFinEquiv (m := 4) (n := 4096)), Fintype.sum_prod_type, Fin.sum_univ_four]
  refine congrArg₂ (· + ·) (congrArg₂ (· + ·) (congrArg₂ (· + ·) ?_ ?_) ?_) ?_ <;>
    exact Finset.sum_congr rfl fun r _ => congrArg f (Fin.ext (Nat.add_comm _ _))

/-- The sum row of batch entry `b`. -/
theorem stOf_sum (xv : S2x16384x64.Idx → EReal) (b : Fin 2) (j : Fin 64) :
    stOf (F := Ideal) xv (ix2 ⟨b.val, by omega⟩ j) = ∑ i, rowAt xv b j i := by
  unfold stOf
  refine (dif_pos (show b.val < 2 from b.isLt)).trans ?_
  exact (sumOf_apply _ _ _ _ b j).trans (quarters (rowAt xv b j)).symm

/-- The row of sums of squares of batch entry `b`. -/
theorem stOf_sq (xv : S2x16384x64.Idx → EReal) (b : Fin 2) (j : Fin 64) :
    stOf (F := Ideal) xv (ix2 ⟨b.val + 2, by omega⟩ j) = ∑ i, rowAt xv b j i * rowAt xv b j i := by
  unfold stOf
  refine (dif_neg (show ¬ b.val + 2 < 2 by omega)).trans ?_
  exact (sqOf_apply _ _ _ _ b j).trans (quarters fun i => rowAt xv b j i * rowAt xv b j i).symm

/-! ## The result, from the gathered statistics -/

/-- The gathered statistics added up over the 16 slots. -/
def total (cm : Vec Ideal S16x4x64 .f32) (q : Fin 4) (j : Fin 64) : EReal := ∑ d : Fin 16, cm (ix3 d q j)

theorem pay17_apply (cm : Vec Ideal S16x4x64 .f32) (q : Fin 4) (j : Fin 64) : k0_pay17 cm (ix2 q j) = total cm q j := by
  refine (Ideal.multiReduction_add_single (s := S16x4x64) (t := S4x64) (a := 0) cm 0x00000000#32 reduces_S16x4x64_S4x64 (.inl rfl) rfl (ix2 q j)).trans ?_
  refine Finset.sum_congr rfl fun d _ => congrArg cm (funext fun a => Fin.ext ?_)
  match a with
  | ⟨0, _⟩ => rfl
  | ⟨1, _⟩ => rfl
  | ⟨2, _⟩ => rfl

/-- The sum and the sum of squares of batch entry `b`, channel `j`. -/
abbrev sumAt (cm : Vec Ideal S16x4x64 .f32) (b : Fin 2) (j : Fin 64) : EReal := total cm ⟨b.val, by omega⟩ j
abbrev sqAt (cm : Vec Ideal S16x4x64 .f32) (b : Fin 2) (j : Fin 64) : EReal := total cm ⟨b.val + 2, by omega⟩ j

theorem pay18_apply (cm : Vec Ideal S16x4x64 .f32) (b : Fin 2) (j : Fin 64) : k0_pay18 cm (ix2 b j) = meanOf (sumAt cm b j) := by
  refine congrArg (fun s => Ideal.div s cN) (Eq.trans ?_ (pay17_apply cm _ j))
  refine extractStridedSlice_apply (s := S4x64) (t := S2x64) ![0, 0] _ slices_S4x64_o0_0_S2x64 (ix2 b j) (ix2 ⟨b.val, by omega⟩ j) fun a => ?_
  match a with
  | ⟨0, _⟩ => exact (Nat.zero_add _).symm
  | ⟨1, _⟩ => exact (Nat.zero_add _).symm

theorem pay19_apply (cm : Vec Ideal S16x4x64 .f32) (b : Fin 2) (j : Fin 64) :
    k0_pay19 cm (ix2 b j) = invOf (sumAt cm b j) (sqAt cm b j) := by
  have e : extractStridedSlice S2x64 ![2, 0] (k0_pay17 cm) slices_S4x64_o2_0_S2x64 (ix2 b j) = sqAt cm b j := by
    refine Eq.trans ?_ (pay17_apply cm _ j)
    refine extractStridedSlice_apply (s := S4x64) (t := S2x64) ![2, 0] _ slices_S4x64_o2_0_S2x64 (ix2 b j) (ix2 ⟨b.val + 2, by omega⟩ j) fun a => ?_
    match a with
    | ⟨0, _⟩ => exact Nat.add_comm _ _
    | ⟨1, _⟩ => exact (Nat.zero_add _).symm
  unfold invOf
  rw [← e, ← pay18_apply]
  rfl

theorem pay20_apply (cm : Vec Ideal S16x4x64 .f32) (b : Fin 2) (j : Fin 64) :
    k0_pay20 cm (ix2 b j) = shiftOf (sumAt cm b j) (sqAt cm b j) := by
  unfold shiftOf
  rw [← pay18_apply, ← pay19_apply, ← Ideal.ofBits_zero_f32]
  rfl

/-- A row per batch entry spread over the rows of a chunk. -/
theorem spread (v : FVec Ideal S2x64 .f32) (b : Fin 2) (r : Fin 4096) (j : Fin 64) :
    broadcastTo S2x4096x64 (shapeCast S2x1x64 v shapeCasts_S2x64_S2x1x64) broadcasts_S2x1x64_S2x4096x64 (ix3 b r j) = v (ix2 b j) := by
  refine (broadcastTo_apply (s := S2x1x64) (t := S2x4096x64) _ _ (ix3 b r j) (ix3 b 0 j) fun a => ?_).trans ?_
  · match a with
    | ⟨0, _⟩ => rfl
    | ⟨1, _⟩ => rfl
    | ⟨2, _⟩ => rfl
  · refine shapeCast_apply (s := S2x64) (t := S2x1x64) _ _ (ix3 b 0 j) (ix2 b j) ?_
    rw [Shape.rowMajor_val_three, Shape.rowMajor_val_two]
    show b.val * 64 + j.val = (b.val * 1 + 0) * 64 + j.val
    omega

/-- The activation of an element of a chunk. -/
theorem pay24_apply (cm : Vec Ideal S16x4x64 .f32) (xc : Vec Ideal S2x4096x64 .f32) (b : Fin 2) (r : Fin 4096) (j : Fin 64) :
    k0_pay24 (k0_pay22 cm xc) (k0_pay23 cm) (ix3 b r j) = kact (xc (ix3 b r j)) (sumAt cm b j) (sqAt cm b j) := by
  unfold kact swish
  rw [← pay19_apply, ← pay20_apply, ← spread (k0_pay19 cm) b r j, ← spread (k0_pay20 cm) b r j, ← Ideal.ofBits_one_bf16]
  rfl

/-- Element `(b, r, n)` of the result of a chunk. -/
def resAt (cm : Vec Ideal S16x4x64 .f32) (w : Vec Ideal S64x128 .f32) (xc : Vec Ideal S2x4096x64 .f32) (b : Fin 2) (r : Fin 4096) (n : Fin 128) : EReal :=
  ∑ k : Fin 64, kact (xc (ix3 b r k)) (sumAt cm b k) (sqAt cm b k) * w (ix2 k n)

/-- A batch entry's activations times the projection. -/
theorem project (b : Fin 2) (hs : S2x4096x64.Slices ![b.val, 0, 0] S1x4096x64) (cm : Vec Ideal S16x4x64 .f32) (w : Vec Ideal S64x128 .f32)
    (xc : Vec Ideal S2x4096x64 .f32) (r : Fin 4096) (n : Fin 128) :
    shapeCast S1x1x4096x128 (truncf .bf16 (matmul (F := Ideal) dot_S4096x64_S64x128_S4096x128_1_0_0_1_n_n none
      (shapeCast S4096x64 (extractStridedSlice S1x4096x64 ![b.val, 0, 0] (k0_pay24 (k0_pay22 cm xc) (k0_pay23 cm)) hs) shapeCasts_S1x4096x64_S4096x64)
      (k0_pay21 w) (constant S4096x128 .f32 0x00000000#32)) bitsLt_bf16_f32) shapeCasts_S4096x128_S1x1x4096x128 (ix4 0 0 r n) = resAt cm w xc b r n := by
  refine (shapeCast_apply (s := S4096x128) (t := S1x1x4096x128) _ _ (ix4 0 0 r n) (ix2 r n) ?_).trans ?_
  · rw [Shape.rowMajor_val_four, Shape.rowMajor_val_two]
    show r.val * 128 + n.val = ((0 * 1 + 0) * 4096 + r.val) * 128 + n.val
    omega
  refine (Ideal.matmul_plain_apply (M := 4096) (K := 64) (N := 128) (φ₁ := .bf16) (φ₂ := .bf16) none _ _ _ r n).trans ?_
  have h0 : (constant (F := Ideal) S4096x128 .f32 0x00000000#32) (ix2 r n) = 0 := Ideal.ofBits_zero_f32
  rw [h0, zero_add]
  refine Finset.sum_congr rfl fun k _ => congrArg₂ (· * ·) ?_ ?_
  · exact (entry_apply b hs _ _ r k).trans (pay24_apply cm xc b r k)
  · exact shapeCast_apply (s := S64x128) (t := S64x128) w _ (ix2 k n) (ix2 k n) rfl

theorem outChunk_apply (cm : Vec Ideal S16x4x64 .f32) (w : Vec Ideal S64x128 .f32) (xc : Vec Ideal S2x4096x64 .f32) (b : Fin 2) (r : Fin 4096)
    (n : Fin 128) : outChunk cm w xc (ix3 b r n) = resAt cm w xc b r n := by
  unfold outChunk
  match b with
  | ⟨0, _⟩ => exact (if_pos rfl).trans (project 0 slices_S2x4096x64_o0_0_0_S1x4096x64 cm w xc r n)
  | ⟨1, _⟩ => exact (if_neg Nat.one_ne_zero).trans (project 1 slices_S2x4096x64_o1_0_0_S1x4096x64 cm w xc r n)

/-- Element `(b, i, n)` of a device's block of the result. -/
theorem outOf_apply (cm : Vec Ideal S16x4x64 .f32) (w : Vec Ideal S64x128 .f32) (xv : S2x16384x64.Idx → EReal) (b : Fin 2) (i : Fin 16384)
    (n : Fin 128) :
    outOf (F := Ideal) cm w xv (ix3 b i n) = ∑ k : Fin 64, kact (xv (ix3 b i k)) (sumAt cm b k) (sqAt cm b k) * w (ix2 k n) := by
  unfold outOf
  refine (outChunk_apply cm w _ b ⟨i.val % 4096, Nat.mod_lt _ (by decide)⟩ n).trans ?_
  refine Finset.sum_congr rfl fun k _ => ?_
  refine congrArg (fun x => kact x _ _ * _) (congrArg xv (funext fun a => Fin.ext ?_))
  match a with
  | ⟨0, _⟩ => rfl
  | ⟨1, _⟩ => exact Nat.div_add_mod _ _
  | ⟨2, _⟩ => rfl

end Cert.BnSwish

end
-- ==== Proof.RefValue.lean ====
/-
# The reference's value at an index, over the extended reals

The reference's operations in five steps (the mean, the variance, the normalized array, the activation, the product), and what
each holds at an index.
-/
module

public import proofs.«01_k».proof.Proof.Gen.ReferenceIdeal.Run
public import proofs.«01_k».proof.Proof.Scalar
public import Idealize.ShloMosaic.Lib.StackMember

@[expose] public section

noncomputable section

namespace Cert.BnSwish.Ref

open Cert.ReferenceIdeal Cert.ReferenceIdeal.Gen

open Idealize.ShloMosaic
open Idealize.ShloMosaic.TcCoe
open Idealize.ShloMosaic.ValueIdx

abbrev Whole : Type := FVec Ideal S2x262144x64 .f32
abbrev Chan : Type := FVec Ideal S2x1x64 .f32

/-- A scalar at every channel. -/
abbrev splat {α : Type} (x : S_.Idx → α) : S2x1x64.Idx → α := broadcastInDim S2x1x64 ![] bcast_S_S2x1x64 x
/-- A channel's value at every row. -/
abbrev spreadRows (v : Chan) : Whole := broadcastInDim S2x262144x64 ![0, 1, 2] bcast_S2x1x64_S2x262144x64_0_1_2 v
/-- The sum over the rows. -/
abbrev sumRows (x : Whole) : Chan :=
  broadcastInDim S2x1x64 ![0, 2] bcast_S2x64_S2x1x64_0_2 (Host.reduceAdd x (constant S_ .f32 0x00000000#32) reducesTo_S2x262144x64_S2x64_d1 h_S_)

/-- The mean over the rows. -/
def mean (x : Whole) : Chan := Host.divf (sumRows x) (splat (constant S_ .f32 0x48800000#32))
/-- The deviations from the mean. -/
def dev (x : Whole) : Whole := subf x (spreadRows (mean x))
/-- The number the variance is divided by. -/
def count : FVec Ideal S_ .f32 := subf (constant S_ .f32 0x48800000#32) (sitofp .f32 (constantI S_ 32 0#32))
/-- The variance over the rows. -/
def var (x : Whole) : Chan :=
  select (splat (cmpf .ogt count (constant S_ .f32 0x00000000#32)))
    (Host.divf (sumRows (mulf (dev x) (dev x))) (splat count)) (splat (id (constant S_ .f32 0x7FC00000#32)))
/-- The normalized array. -/
def norm (x : Whole) : Whole :=
  Host.divf (dev x) (spreadRows (Host.sqrt (addf (var x) (splat (constant S_ .f32 0x3727C5AC#32)))))
/-- The activation. -/
def act (x : Whole) : Whole :=
  Host.divf (norm x) (addf (broadcastInDim S2x262144x64 ![] bcast_S_S2x262144x64 (constant S_ .f32 0x3F800000#32)) (Host.exp (Host.negf (norm x))))
/-- The product. -/
def out (x : Whole) (w : FVec Ideal S64x128 .f32) : FVec Ideal S2x262144x128 .bf16 :=
  truncf .bf16 (Host.dotGeneral dot_S2x262144x64_S64x128_S2x262144x128_2_0_01_1_n_n none (act x) w) bitsLt_bf16_f32

/-- The reference's result is that product of its arguments. -/
theorem res_eq (m : (ℓ : Loc nD τ sig) → Buf (Elt Ideal) ℓ) (c : Dev nD) :
    Cert.ReferenceIdeal.Value.res_main_v18 m c = out (m ((c.tc : Thread nD τ).loc main_arg0)) (m ((c.tc : Thread nD τ).loc main_arg1)) := rfl

/-! ## At an index -/

/-- Row `i` in batch entry `b` and channel `j`. -/
def rowAt (x : Whole) (b : Fin 2) (j : Fin 64) (i : Fin 262144) : EReal := x (ix3 b i j)

theorem splat_apply {α : Type} (x : S_.Idx → α) (i : S2x1x64.Idx) : splat x i = x ix0 := broadcastInDim_scalar_apply _ x i

theorem spreadRows_apply (v : Chan) (b : Fin 2) (i : Fin 262144) (j : Fin 64) : spreadRows v (ix3 b i j) = v (ix3 b 0 j) :=
  broadcastInDim_apply (s := S2x1x64) (t := S2x262144x64) _ _ v (ix3 b i j) (ix3 b 0 j) fun a =>
    match a with | ⟨0, _⟩ => rfl | ⟨1, _⟩ => rfl | ⟨2, _⟩ => rfl

theorem reduces_rows : S2x262144x64.Reduces [1] S2x64 := by decide

theorem sumRows_apply (x : Whole) (b : Fin 2) (j : Fin 64) : sumRows x (ix3 b 0 j) = ∑ i, rowAt x b j i := by
  refine (broadcastInDim_apply (s := S2x64) (t := S2x1x64) _ _ _ (ix3 b 0 j) (ix2 b j) fun a =>
    match a with | ⟨0, _⟩ => rfl | ⟨1, _⟩ => rfl).trans ?_
  refine (hostReduceAdd_apply x _ _ _ (ix2 b j)).trans ?_
  rw [Ideal.hostReduceAdd_single reducesTo_S2x262144x64_S2x64_d1 reduces_rows]
  have h0 : (constant (F := Ideal) S_ .f32 0x00000000#32) (Shape.Idx.first h_S_) = 0 := Ideal.ofBits_zero_f32
  rw [h0, zero_add]
  refine Finset.sum_congr rfl fun i _ => congrArg x (funext fun a => Fin.ext ?_)
  match a with
  | ⟨0, _⟩ => rfl
  | ⟨1, _⟩ => rfl
  | ⟨2, _⟩ => rfl

theorem mean_apply (x : Whole) (b : Fin 2) (j : Fin 64) : mean x (ix3 b 0 j) = meanOf (∑ i, rowAt x b j i) :=
  congrArg₂ Ideal.div (sumRows_apply x b j) (splat_apply _ _)

theorem dev_apply (x : Whole) (b : Fin 2) (i : Fin 262144) (j : Fin 64) :
    dev x (ix3 b i j) = rowAt x b j i - meanOf (∑ i, rowAt x b j i) :=
  congrArg (fun y => x (ix3 b i j) - y) ((spreadRows_apply _ b i j).trans (mean_apply x b j))

theorem count_eq : count ix0 = cN := by
  show cN - (((0#32 : BitVec 32).toInt : ℝ) : EReal) = cN
  simp

theorem var_apply (x : Whole) (b : Fin 2) (j : Fin 64) :
    var x (ix3 b 0 j) = Ideal.div (∑ i, (rowAt x b j i - meanOf (∑ i, rowAt x b j i)) * (rowAt x b j i - meanOf (∑ i, rowAt x b j i))) cN := by
  have hc : splat (cmpf .ogt count (constant (F := Ideal) S_ .f32 0x00000000#32)) (ix3 b 0 j) = 1#1 := by
    refine (splat_apply _ _).trans ?_
    show BitVec.ofBool (decide (Ideal.ofBits .f32 0x00000000#32 < count ix0)) = 1#1
    rw [count_eq, Ideal.ofBits_zero_f32, cN_eq, decide_eq_true (by exact_mod_cast (by norm_num : (0 : ℝ) < 262144))]
    rfl
  unfold var
  rw [select_apply]
  refine (if_pos hc).trans ?_
  refine congrArg₂ Ideal.div ((sumRows_apply _ b j).trans (Finset.sum_congr rfl fun i _ => ?_)) ((splat_apply _ _).trans count_eq)
  exact congrArg₂ (· * ·) (dev_apply x b i j) (dev_apply x b i j)

theorem norm_apply (x : Whole) (b : Fin 2) (i : Fin 262144) (j : Fin 64) :
    norm x (ix3 b i j) = rnorm (rowAt x b j i) (∑ i, rowAt x b j i)
      (∑ i, (rowAt x b j i - meanOf (∑ i, rowAt x b j i)) * (rowAt x b j i - meanOf (∑ i, rowAt x b j i))) := by
  refine congrArg₂ Ideal.div (dev_apply x b i j) ((spreadRows_apply _ b i j).trans ?_)
  exact congrArg Ideal.sqrt (congrArg₂ (· + ·) (var_apply x b j) (splat_apply _ _))

theorem act_apply (x : Whole) (b : Fin 2) (i : Fin 262144) (j : Fin 64) :
    act x (ix3 b i j) = ract (rowAt x b j i) (∑ i, rowAt x b j i)
      (∑ i, (rowAt x b j i - meanOf (∑ i, rowAt x b j i)) * (rowAt x b j i - meanOf (∑ i, rowAt x b j i))) := by
  unfold ract
  rw [← norm_apply, ← Ideal.ofBits_one_f32]
  exact congrArg (fun y => Ideal.div (norm x (ix3 b i j)) (y + Ideal.exp (-(norm x (ix3 b i j))))) (broadcastInDim_scalar_apply _ _ _)

/-- Element `(b, i, n)` of the reference's result. -/
theorem out_apply (x : Whole) (w : FVec Ideal S64x128 .f32) (b : Fin 2) (i : Fin 262144) (n : Fin 128) :
    out x w (ix3 b i n) = ∑ k : Fin 64, ract (rowAt x b k i) (∑ i, rowAt x b k i)
      (∑ i, (rowAt x b k i - meanOf (∑ i, rowAt x b k i)) * (rowAt x b k i - meanOf (∑ i, rowAt x b k i))) * w (ix2 k n) := by
  let D := dot_S2x262144x64_S64x128_S2x262144x128_2_0_01_1_n_n
  unfold out
  rw [truncf_apply]
  simp only [Host.dotGeneral]
  rw [Ideal.dotGeneral_apply, ← Equiv.sum_comp (contrEquiv1 D 64 rfl rfl).symm]
  refine Finset.sum_congr rfl fun k _ => congrArg₂ (· * ·) (Eq.trans ?_ (act_apply x b i k)) ?_
  · refine congrArg (act x) (funext fun a => Fin.ext ?_)
    match a with
    | ⟨0, _⟩ => rfl
    | ⟨1, _⟩ => rfl
    | ⟨2, _⟩ => exact contrEquiv1_symm_val D 64 rfl rfl k
  · refine congrArg w (funext fun a => Fin.ext ?_)
    match a with
    | ⟨0, _⟩ => exact contrEquiv1_symm_val D 64 rfl rfl k
    | ⟨1, _⟩ => rfl

end Cert.BnSwish.Ref

end
-- ==== Proof.Algebraic.lean ====
/-
# The kernel computes the reference

The devices' statistics add up to the sums over the whole batch; every element of `x` is a real number by the precondition; so
each element of the gathered blocks is the reference's.
-/
module

public import proofs.«01_k».proof.Proof.Frames
public import proofs.«01_k».proof.Proof.Sums
public import proofs.«01_k».proof.Proof.RefValue
public import Idealize.ShloMosaic.Lib.ReduceAll

@[expose] public section

noncomputable section

namespace Cert.BnSwish

open Cert.KernelIdeal Cert.KernelIdeal.Gen

open Idealize.ShloMosaic
open Idealize.ShloMosaic.TcCoe
open Idealize.SL.Sem
open Idealize.ShloMosaic.ValueIdx

/-! ## Sums over the devices -/

/-- Row `i` of device `e`'s block, among all the rows. -/
def wholeRow (e : Fin 16) (i : Fin 16384) : Fin 262144 := ⟨16384 * e.val + i.val, by omega⟩

/-- The sums over the devices' rows, taken from device `c` backwards, add up to the sum over all the rows. -/
theorem sum_devices (c : Fin 16) (g : Fin 262144 → EReal) : ∑ d : Fin 16, ∑ i : Fin 16384, g (wholeRow (c - d) i) = ∑ i, g i := by
  refine (Equiv.sum_comp (Equiv.subLeft c) fun e => ∑ i, g (wholeRow e i)).trans ?_
  rw [← Equiv.sum_comp (finProdFinEquiv (m := 16) (n := 16384)),
    Fintype.sum_prod_type]
  exact Finset.sum_congr rfl fun e _ => Finset.sum_congr rfl fun i _ => congrArg g (Fin.ext (Nat.add_comm _ _))

section

variable (m : (ℓ : Loc nD τ sig) → Buf (Elt Ideal) ℓ) (X : Ref.Whole)

/-- Device `c`'s block of `x` is its rows of the whole. -/
def Holds : Prop := ∀ (c : Dev nD) (b : Fin 2) (i : Fin 16384) (j : Fin 64), xOf m c (ix3 b i j) = X (ix3 b (wholeRow c i) j)

variable {m X}

/-- The gathered sums are the sums over the whole batch. -/
theorem gathered_sum (h : Holds m X) (c : Dev nD) (b : Fin 2) (j : Fin 64) :
    sumAt (commFin (stats m) c) b j = ∑ i, Ref.rowAt X b j i := by
  rw [← sum_devices c]
  refine Finset.sum_congr rfl fun d _ => (stOf_sum (xOf m (c - d)) b j).trans ?_
  exact Finset.sum_congr rfl fun i _ => h (c - d) b i j

/-- The gathered sums of squares are the sums of squares over the whole batch. -/
theorem gathered_sq (h : Holds m X) (c : Dev nD) (b : Fin 2) (j : Fin 64) :
    sqAt (commFin (stats m) c) b j = ∑ i, Ref.rowAt X b j i * Ref.rowAt X b j i := by
  rw [← sum_devices c]
  refine Finset.sum_congr rfl fun d _ => (stOf_sq (xOf m (c - d)) b j).trans ?_
  exact Finset.sum_congr rfl fun i _ => congrArg₂ (· * ·) (h (c - d) b i j) (h (c - d) b i j)

/-- Every element of the whole is a real number. -/
def Real (X : Ref.Whole) : Prop := ∀ (b : Fin 2) (j : Fin 64), ∃ f : Fin 262144 → ℝ, ∀ i, Ref.rowAt X b j i = (f i : EReal)

/-- Each element of a device's block of the result is the reference's. -/
theorem block_eq (h : Holds m X) (hX : Real X) (w : Vec Ideal S64x128 .f32) (c : Dev nD) (b : Fin 2) (i : Fin 16384) (n : Fin 128) :
    outOf (F := Ideal) (commFin (stats m) c) w (xOf m c) (ix3 b i n) = Ref.out X w (ix3 b (wholeRow c i) n) := by
  rw [outOf_apply, Ref.out_apply]
  refine Finset.sum_congr rfl fun k _ => congrArg (· * w (ix2 k n)) ?_
  obtain ⟨f, hf⟩ := hX b k
  rw [h c b i k, gathered_sum h, gathered_sq h]
  have e : X (ix3 b (wholeRow c i) k) = (f (wholeRow c i) : EReal) := hf _
  simp only [e, hf]
  exact kact_eq_ract f _

end

/-! ## The precondition -/

/-- An extended real whose absolute value is below infinity is a real number. -/
theorem real_of_abs_lt (x : EReal) (h : max x (-x) < ⊤) : ∃ r : ℝ, x = r := by
  induction x with
  | bot => simp at h
  | top => simp at h
  | coe r => exact ⟨r, rfl⟩

attribute [local instance] pre_facts pre_facts_ref

/-- Where the precondition holds every element of every device's block is a real number. -/
theorem real_of_pre (m : (ℓ : Loc nD τ sig) → Buf (Elt Ideal) ℓ) (h : Cert.Pre_KernelIdeal_finite_KernelIdeal m) (c : Dev nD)
    (i : S2x16384x64.Idx) : ∃ r : ℝ, xOf m c i = r := by
  have e := congrFun (h c) ix0
  haveI : Subsingleton (Cert.Pre_finite_KernelIdeal.S_.Idx) := ⟨fun a b => funext fun k => k.elim0⟩
  have e1 := Host.reduce_andi_all _ _ _ _ _ e i
  have e2 : BitVec.ofBool (decide (max (xOf m c i) (-(xOf m c i)) < Ideal.ofBits .f32 0x7F800000#32)) = 1#1 := e1
  have e3 : Ideal.ofBits .f32 0x7F800000#32 = ⊤ := by simp [Ideal.ofBits, Ideal.ieee]
  rw [e3] at e2
  refine real_of_abs_lt _ ?_
  by_contra hn
  rw [decide_eq_false hn] at e2
  exact absurd e2 (by decide)

/-! ## The claim -/

/-- The projection as a device reads it is the whole argument. -/
theorem wOf_eq {F : FTy → Type} [FloatOps F] (m : (ℓ : Loc nD τ sig) → Buf (Elt F) ℓ) (c : Dev nD) : wOf m c = m ((c : Thread nD τ).loc main_arg1) := by
  funext i
  refine congrArg (m ((c : Thread nD τ).loc main_arg1)) (funext fun a => Fin.ext ?_)
  match a with
  | ⟨0, _⟩ => exact (Nat.zero_add _).trans (Nat.one_mul _)
  | ⟨1, _⟩ => exact (Nat.zero_add _).trans (Nat.one_mul _)

/-- Where an index of a device's block lies in the whole array. -/
theorem block_at {n : ℕ} {α : Type} (c : Fin 16) (h : Layout.Tiles ⟨3, ![2, 16384, n]⟩ ⟨3, ![2, 262144, n]⟩ 1 16)
    (v : (⟨3, ![2, 262144, n]⟩ : Shape).Idx → α) (b : Fin 2) (i : Fin 16384) (j : Fin n) :
    Layout.block ⟨3, ![2, 16384, n]⟩ ⟨3, ![2, 262144, n]⟩ 1 16 c v h (ix3 b i j) = v (ix3 b (wholeRow c i) j) := by
  refine (Layout.block_apply c v h _).trans (congrArg v (funext fun a => Fin.ext ?_))
  refine (h.idx_val c (ix3 b i j) a).trans ?_
  match a with
  | ⟨0, _⟩ => rfl
  | ⟨1, _⟩ => exact congrArg (· + i.val) (Nat.mul_comm _ _)
  | ⟨2, _⟩ => rfl

/-- The run of the mesh ends with the blocks of the reference's result. -/
theorem algebraic : Cert.algebraic_KernelIdeal_ReferenceIdeal_pre_finite_KernelIdeal := by
  intro m g m' g' hp ha
  have hH : Holds m (m' (((0 : Dev Cert.ReferenceIdeal.nD).tc : Thread Cert.ReferenceIdeal.nD Cert.ReferenceIdeal.τ).loc Cert.ReferenceIdeal.main_arg0)) :=
    fun c b i j => (congrFun (ha c).1 (ix3 b i j)).trans (block_at c _ _ b i j)
  have hR : Real (m' (((0 : Dev Cert.ReferenceIdeal.nD).tc : Thread Cert.ReferenceIdeal.nD Cert.ReferenceIdeal.τ).loc Cert.ReferenceIdeal.main_arg0)) := by
    intro b j
    have key : ∀ i : Fin 262144, ∃ r : ℝ, Ref.rowAt (m' (((0 : Dev Cert.ReferenceIdeal.nD).tc : Thread Cert.ReferenceIdeal.nD Cert.ReferenceIdeal.τ).loc Cert.ReferenceIdeal.main_arg0)) b j i = (r : EReal) := by
      intro i
      obtain ⟨r, hr⟩ := real_of_pre m hp (⟨i.val / 16384, by omega⟩ : Fin 16) (ix3 b ⟨i.val % 16384, Nat.mod_lt _ (by decide)⟩ j)
      refine ⟨r, Eq.trans ?_ ((hH _ b _ j).symm.trans hr)⟩
      exact congrArg (fun i => Ref.rowAt _ b j i) (Fin.ext (Nat.div_add_mod i.val 16384).symm)
    choose f hf using key
    exact ⟨f, hf⟩
  refine ⟨Cert.ReferenceIdeal.Value.res_main_v18 m' 0, ?_, ?_⟩
  · refine (θ_run Cert.KernelIdeal.defs _ _).mono (fun r h c => ⟨(h.1 c).2.2.trans ?_, (h.1 c).1, (h.1 c).2.1⟩) (run_main (F := Ideal) m g)
    rw [Ref.res_eq]
    funext i
    rw [eq_ix3 (n0 := 2) (n1 := 16384) (n2 := 128) i]
    refine Eq.trans ?_ (block_at c _ _ (i 0) (i 1) (i 2)).symm
    unfold resOf
    rw [wOf_eq, (ha c).2]
    exact block_eq hH hR _ c (i 0) (i 1) (i 2)
  · exact (θ_run Cert.ReferenceIdeal.defs _ _).mono (fun _ h => h 0) (Cert.ReferenceIdeal.Value.run m' g')

end Cert.BnSwish

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

/-- The frames of the kernel, of its ideal reading and of the reference, and that the ideal reading computes the reference. -/
theorem claim : Cert.Claim :=
  ⟨Cert.Kernel.Gen.facts, Cert.KernelIdeal.Gen.facts, Cert.ReferenceIdeal.Gen.facts, Cert.BnSwish.pre_facts, Cert.BnSwish.pre_facts_ref,
    Cert.BnSwish.frame_kernel, Cert.BnSwish.frame_ideal, fun m g _ => Cert.BnSwish.frame_ideal m g trivial, Cert.BnSwish.frame_ref,
    fun m g _ => Cert.BnSwish.frame_ref m g trivial, trivial, Cert.BnSwish.algebraic⟩

end Cert.Proof

end
